-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bias [hPre_finite_bias : Cert.Pre_finite_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bias [hPre_finite_bias : Cert.Pre_finite_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_bias [hKernelIdeal : Cert.KernelIdeal.Facts] [hPre_finite_bias : Cert.Pre_finite_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_bias [hReferenceIdeal : Cert.ReferenceIdeal.Facts] [hPre_finite_bias : Cert.Pre_finite_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_bias [hKernelIdeal : Cert.KernelIdeal.Facts] [hReferenceIdeal : Cert.ReferenceIdeal.Facts] [hPre_finite_bias : Cert.Pre_finite_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_bias : Cert.Pre_finite_bias.Facts),
    quiescent_Kernel (hKernel := hKernel)
    ∧ quiescent_KernelIdeal (hKernelIdeal := hKernelIdeal)
    ∧ quiescent_KernelIdeal_pre_finite_bias (hKernelIdeal := hKernelIdeal) (hPre_finite_bias := hPre_finite_bias)
    ∧ quiescent_ReferenceIdeal (hReferenceIdeal := hReferenceIdeal)
    ∧ quiescent_ReferenceIdeal_pre_finite_bias (hReferenceIdeal := hReferenceIdeal) (hPre_finite_bias := hPre_finite_bias)
    ∧ preserves_Kernel_KernelIdeal
    ∧ algebraic_KernelIdeal_ReferenceIdeal_pre_finite_bias (hKernelIdeal := hKernelIdeal) (hReferenceIdeal := hReferenceIdeal) (hPre_finite_bias := hPre_finite_bias)
-- ==== Pre_finite_bias.lean ====
abbrev S64x2048x16x16 : Shape := ⟨4, ![64, 2048, 16, 16]⟩
abbrev S256x2048 : Shape := ⟨2, ![256, 2048]⟩
abbrev S256 : Shape := ⟨1, ![256]⟩
abbrev S4x32896 : Shape := ⟨2, ![4, 32896]⟩
abbrev S4 : Shape := ⟨1, ![4]⟩
abbrev S1x32896 : Shape := ⟨2, ![1, 32896]⟩
abbrev S1 : Shape := ⟨1, ![1]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S64x2048x16x16 .f32) (main_arg1 : FVec F S256x2048 .f32) (main_arg2 : FVec F S256 .f32) (main_arg3 : FVec F S4x32896 .f32) (main_arg4 : FVec F S4 .f32) (main_arg5 : FVec F S1x32896 .f32) (main_arg6 : FVec F S1 .f32) : IVec S256 1 :=
  let main_v0 : FVec F S256 .f32 := Host.absf main_arg2
  let main_cst : FVec F S_ .f32 := constant S_ .f32 0x7F800000#32
  let main_v1 : FVec F S256 .f32 := broadcastInDim S256 ![] bcast_S_S256 main_cst
  let main_v2 : IVec S256 1 := cmpf .olt main_v0 main_v1
  main_v2
-- ==== Kernel.lean ====
abbrev S64x2048x16x16 : Shape := ⟨4, ![64, 2048, 16, 16]⟩
abbrev S256x2048 : Shape := ⟨2, ![256, 2048]⟩
abbrev S256 : Shape := ⟨1, ![256]⟩
abbrev S4x32896 : Shape := ⟨2, ![4, 32896]⟩
abbrev S4 : Shape := ⟨1, ![4]⟩
abbrev S1x32896 : Shape := ⟨2, ![1, 32896]⟩
abbrev S1 : Shape := ⟨1, ![1]⟩
abbrev S256x256 : Shape := ⟨2, ![256, 256]⟩
abbrev S1x256x256 : Shape := ⟨3, ![1, 256, 256]⟩
abbrev S64x2048x256 : Shape := ⟨3, ![64, 2048, 256]⟩
abbrev S5x32896 : Shape := ⟨2, ![5, 32896]⟩
abbrev S_ : Shape := ⟨0, ![]⟩
abbrev S5x33152 : Shape := ⟨2, ![5, 33152]⟩
abbrev S5x256 : Shape := ⟨2, ![5, 256]⟩
abbrev S5x1x256 : Shape := ⟨3, ![5, 1, 256]⟩
abbrev S5x16x256 : Shape := ⟨3, ![5, 16, 256]⟩
abbrev S5x256x256 : Shape := ⟨3, ![5, 256, 256]⟩
abbrev S64x1x128 : Shape := ⟨3, ![64, 1, 128]⟩
abbrev S64x1x5 : Shape := ⟨3, ![64, 1, 5]⟩
abbrev S64x5 : Shape := ⟨2, ![64, 5]⟩
abbrev S64x4 : Shape := ⟨2, ![64, 4]⟩
abbrev S1x4 : Shape := ⟨2, ![1, 4]⟩
abbrev S64x1 : Shape := ⟨2, ![64, 1]⟩
abbrev S1x1 : Shape := ⟨2, ![1, 1]⟩
abbrev S8x2048x256 : Shape := ⟨3, ![8, 2048, 256]⟩
abbrev S8x1x128 : Shape := ⟨3, ![8, 1, 128]⟩
abbrev S1x128 : Shape := ⟨2, ![1, 128]⟩
abbrev S1x2048x256 : Shape := ⟨3, ![1, 2048, 256]⟩
abbrev S2048x256 : Shape := ⟨2, ![2048, 256]⟩
abbrev S256x1 : Shape := ⟨2, ![256, 1]⟩
abbrev S1x1x1 : Shape := ⟨3, ![1, 1, 1]⟩
abbrev S1x1x128 : Shape := ⟨3, ![1, 1, 128]⟩

abbrev nBuf : Space → Nat
  | .hbm => 556
  | .vmem => 6
  | .smem => 0
  | _ => 0

abbrev hbmTy0_0 (i : Nat) : BufTy := match i % 128 with
  | 0 => ⟨S64x2048x16x16, .f32⟩
  | 1 => ⟨S256x2048, .f32⟩
  | 2 => ⟨S256, .f32⟩
  | 3 => ⟨S4x32896, .f32⟩
  | 4 => ⟨S4, .f32⟩
  | 5 => ⟨S1x32896, .f32⟩
  | 6 => ⟨S1, .f32⟩
  | 7 => ⟨S256x256, .f32⟩
  | 8 => ⟨S1x256x256, .f32⟩
  | 9 => ⟨S64x2048x256, .f32⟩
  | 10 => ⟨S5x32896, .f32⟩
  | 11 => ⟨S_, .i32⟩
  | 12 => ⟨S_, .f32⟩
  | 13 => ⟨S5x33152, .f32⟩
  | 14 => ⟨S5x256, .f32⟩
  | 15 => ⟨S5x256, .f32⟩
  | 16 => ⟨S5x256, .f32⟩
  | 17 => ⟨S5x256, .f32⟩
  | 18 => ⟨S5x256, .f32⟩
  | 19 => ⟨S5x256, .f32⟩
  | 20 => ⟨S5x256, .f32⟩
  | 21 => ⟨S5x256, .f32⟩
  | 22 => ⟨S5x256, .f32⟩
  | 23 => ⟨S5x256, .f32⟩
  | 24 => ⟨S5x256, .f32⟩
  | 25 => ⟨S5x256, .f32⟩
  | 26 => ⟨S5x256, .f32⟩
  | 27 => ⟨S5x256, .f32⟩
  | 28 => ⟨S5x256, .f32⟩
  | 29 => ⟨S5x256, .f32⟩
  | 30 => ⟨S5x256, .f32⟩
  | 31 => ⟨S5x256, .f32⟩
  | 32 => ⟨S5x256, .f32⟩
  | 33 => ⟨S5x256, .f32⟩
  | 34 => ⟨S5x256, .f32⟩
  | 35 => ⟨S5x256, .f32⟩
  | 36 => ⟨S5x256, .f32⟩
  | 37 => ⟨S5x256, .f32⟩
  | 38 => ⟨S5x256, .f32⟩
  | 39 => ⟨S5x256, .f32⟩
  | 40 => ⟨S5x256, .f32⟩
  | 41 => ⟨S5x256, .f32⟩
  | 42 => ⟨S5x256, .f32⟩
  | 43 => ⟨S5x256, .f32⟩
  | 44 => ⟨S5x256, .f32⟩
  | 45 => ⟨S5x256, .f32⟩
  | 46 => ⟨S5x256, .f32⟩
  | 47 => ⟨S5x256, .f32⟩
  | 48 => ⟨S5x256, .f32⟩
  | 49 => ⟨S5x256, .f32⟩
  | 50 => ⟨S5x256, .f32⟩
  | 51 => ⟨S5x256, .f32⟩
  | 52 => ⟨S5x256, .f32⟩
  | 53 => ⟨S5x256, .f32⟩
  | 54 => ⟨S5x256, .f32⟩
  | 55 => ⟨S5x256, .f32⟩
  | 56 => ⟨S5x256, .f32⟩
  | 57 => ⟨S5x256, .f32⟩
  | 58 => ⟨S5x256, .f32⟩
  | 59 => ⟨S5x256, .f32⟩
  | 60 => ⟨S5x256, .f32⟩
  | 61 => ⟨S5x256, .f32⟩
  | 62 => ⟨S5x256, .f32⟩
  | 63 => ⟨S5x256, .f32⟩
  | 64 => ⟨S5x256, .f32⟩
  | 65 => ⟨S5x256, .f32⟩
  | 66 => ⟨S5x256, .f32⟩
  | 67 => ⟨S5x256, .f32⟩
  | 68 => ⟨S5x256, .f32⟩
  | 69 => ⟨S5x256, .f32⟩
  | 70 => ⟨S5x256, .f32⟩
  | 71 => ⟨S5x256, .f32⟩
  | 72 => ⟨S5x256, .f32⟩
  | 73 => ⟨S5x256, .f32⟩
  | 74 => ⟨S5x256, .f32⟩
  | 75 => ⟨S5x256, .f32⟩
  | 76 => ⟨S5x256, .f32⟩
  | 77 => ⟨S5x256, .f32⟩
  | 78 => ⟨S5x256, .f32⟩
  | 79 => ⟨S5x256, .f32⟩
  | 80 => ⟨S5x256, .f32⟩
  | 81 => ⟨S5x256, .f32⟩
  | 82 => ⟨S5x256, .f32⟩
  | 83 => ⟨S5x256, .f32⟩
  | 84 => ⟨S5x256, .f32⟩
  | 85 => ⟨S5x256, .f32⟩
  | 86 => ⟨S5x256, .f32⟩
  | 87 => ⟨S5x256, .f32⟩
  | 88 => ⟨S5x256, .f32⟩
  | 89 => ⟨S5x256, .f32⟩
  | 90 => ⟨S5x256, .f32⟩
  | 91 => ⟨S5x256, .f32⟩
  | 92 => ⟨S5x256, .f32⟩
  | 93 => ⟨S5x256, .f32⟩
  | 94 => ⟨S5x256, .f32⟩
  | 95 => ⟨S5x256, .f32⟩
  | 96 => ⟨S5x256, .f32⟩
  | 97 => ⟨S5x256, .f32⟩
  | 98 => ⟨S5x256, .f32⟩
  | 99 => ⟨S5x256, .f32⟩
  | 100 => ⟨S5x256, .f32⟩
  | 101 => ⟨S5x256, .f32⟩
  | 102 => ⟨S5x256, .f32⟩
  | 103 => ⟨S5x256, .f32⟩
  | 104 => ⟨S5x256, .f32⟩
  | 105 => ⟨S5x256, .f32⟩
  | 106 => ⟨S5x256, .f32⟩
  | 107 => ⟨S5x256, .f32⟩
  | 108 => ⟨S5x256, .f32⟩
  | 109 => ⟨S5x256, .f32⟩
  | 110 => ⟨S5x256, .f32⟩
  | 111 => ⟨S5x256, .f32⟩
  | 112 => ⟨S5x256, .f32⟩
  | 113 => ⟨S5x256, .f32⟩
  | 114 => ⟨S5x256, .f32⟩
  | 115 => ⟨S5x256, .f32⟩
  | 116 => ⟨S5x256, .f32⟩
  | 117 => ⟨S5x256, .f32⟩
  | 118 => ⟨S5x256, .f32⟩
  | 119 => ⟨S5x256, .f32⟩
  | 120 => ⟨S5x256, .f32⟩
  | 121 => ⟨S5x256, .f32⟩
  | 122 => ⟨S5x256, .f32⟩
  | 123 => ⟨S5x256, .f32⟩
  | 124 => ⟨S5x256, .f32⟩
  | 125 => ⟨S5x256, .f32⟩
  | 126 => ⟨S5x256, .f32⟩
  | 127 => ⟨S5x256, .f32⟩
  | _ => ⟨S64x2048x16x16, .f32⟩

abbrev hbmTy0_1 (i : Nat) : BufTy := match i % 128 with
  | 0 => ⟨S5x256, .f32⟩
  | 1 => ⟨S5x256, .f32⟩
  | 2 => ⟨S5x256, .f32⟩
  | 3 => ⟨S5x256, .f32⟩
  | 4 => ⟨S5x256, .f32⟩
  | 5 => ⟨S5x256, .f32⟩
  | 6 => ⟨S5x256, .f32⟩
  | 7 => ⟨S5x256, .f32⟩
  | 8 => ⟨S5x256, .f32⟩
  | 9 => ⟨S5x256, .f32⟩
  | 10 => ⟨S5x256, .f32⟩
  | 11 => ⟨S5x256, .f32⟩
  | 12 => ⟨S5x256, .f32⟩
  | 13 => ⟨S5x256, .f32⟩
  | 14 => ⟨S5x256, .f32⟩
  | 15 => ⟨S5x256, .f32⟩
  | 16 => ⟨S5x256, .f32⟩
  | 17 => ⟨S5x256, .f32⟩
  | 18 => ⟨S5x256, .f32⟩
  | 19 => ⟨S5x256, .f32⟩
  | 20 => ⟨S5x256, .f32⟩
  | 21 => ⟨S5x256, .f32⟩
  | 22 => ⟨S5x256, .f32⟩
  | 23 => ⟨S5x256, .f32⟩
  | 24 => ⟨S5x256, .f32⟩
  | 25 => ⟨S5x256, .f32⟩
  | 26 => ⟨S5x256, .f32⟩
  | 27 => ⟨S5x256, .f32⟩
  | 28 => ⟨S5x256, .f32⟩
  | 29 => ⟨S5x256, .f32⟩
  | 30 => ⟨S5x256, .f32⟩
  | 31 => ⟨S5x256, .f32⟩
  | 32 => ⟨S5x256, .f32⟩
  | 33 => ⟨S5x256, .f32⟩
  | 34 => ⟨S5x256, .f32⟩
  | 35 => ⟨S5x256, .f32⟩
  | 36 => ⟨S5x256, .f32⟩
  | 37 => ⟨S5x256, .f32⟩
  | 38 => ⟨S5x256, .f32⟩
  | 39 => ⟨S5x256, .f32⟩
  | 40 => ⟨S5x256, .f32⟩
  | 41 => ⟨S5x256, .f32⟩
  | 42 => ⟨S5x256, .f32⟩
  | 43 => ⟨S5x256, .f32⟩
  | 44 => ⟨S5x256, .f32⟩
  | 45 => ⟨S5x256, .f32⟩
  | 46 => ⟨S5x256, .f32⟩
  | 47 => ⟨S5x256, .f32⟩
  | 48 => ⟨S5x256, .f32⟩
  | 49 => ⟨S5x256, .f32⟩
  | 50 => ⟨S5x256, .f32⟩
  | 51 => ⟨S5x256, .f32⟩
  | 52 => ⟨S5x256, .f32⟩
  | 53 => ⟨S5x256, .f32⟩
  | 54 => ⟨S5x256, .f32⟩
  | 55 => ⟨S5x256, .f32⟩
  | 56 => ⟨S5x256, .f32⟩
  | 57 => ⟨S5x256, .f32⟩
  | 58 => ⟨S5x256, .f32⟩
  | 59 => ⟨S5x256, .f32⟩
  | 60 => ⟨S5x256, .f32⟩
  | 61 => ⟨S5x256, .f32⟩
  | 62 => ⟨S5x256, .f32⟩
  | 63 => ⟨S5x256, .f32⟩
  | 64 => ⟨S5x256, .f32⟩
  | 65 => ⟨S5x256, .f32⟩
  | 66 => ⟨S5x256, .f32⟩
  | 67 => ⟨S5x256, .f32⟩
  | 68 => ⟨S5x256, .f32⟩
  | 69 => ⟨S5x256, .f32⟩
  | 70 => ⟨S5x256, .f32⟩
  | 71 => ⟨S5x256, .f32⟩
  | 72 => ⟨S5x256, .f32⟩
  | 73 => ⟨S5x256, .f32⟩
  | 74 => ⟨S5x256, .f32⟩
  | 75 => ⟨S5x256, .f32⟩
  | 76 => ⟨S5x256, .f32⟩
  | 77 => ⟨S5x256, .f32⟩
  | 78 => ⟨S5x256, .f32⟩
  | 79 => ⟨S5x256, .f32⟩
  | 80 => ⟨S5x256, .f32⟩
  | 81 => ⟨S5x256, .f32⟩
  | 82 => ⟨S5x256, .f32⟩
  | 83 => ⟨S5x256, .f32⟩
  | 84 => ⟨S5x256, .f32⟩
  | 85 => ⟨S5x256, .f32⟩
  | 86 => ⟨S5x256, .f32⟩
  | 87 => ⟨S5x256, .f32⟩
  | 88 => ⟨S5x256, .f32⟩
  | 89 => ⟨S5x256, .f32⟩
  | 90 => ⟨S5x256, .f32⟩
  | 91 => ⟨S5x256, .f32⟩
  | 92 => ⟨S5x256, .f32⟩
  | 93 => ⟨S5x256, .f32⟩
  | 94 => ⟨S5x256, .f32⟩
  | 95 => ⟨S5x256, .f32⟩
  | 96 => ⟨S5x256, .f32⟩
  | 97 => ⟨S5x256, .f32⟩
  | 98 => ⟨S5x256, .f32⟩
  | 99 => ⟨S5x256, .f32⟩
  | 100 => ⟨S5x256, .f32⟩
  | 101 => ⟨S5x256, .f32⟩
  | 102 => ⟨S5x256, .f32⟩
  | 103 => ⟨S5x256, .f32⟩
  | 104 => ⟨S5x256, .f32⟩
  | 105 => ⟨S5x256, .f32⟩
  | 106 => ⟨S5x256, .f32⟩
  | 107 => ⟨S5x256, .f32⟩
  | 108 => ⟨S5x256, .f32⟩
  | 109 => ⟨S5x256, .f32⟩
  | 110 => ⟨S5x256, .f32⟩
  | 111 => ⟨S5x256, .f32⟩
  | 112 => ⟨S5x256, .f32⟩
  | 113 => ⟨S5x256, .f32⟩
  | 114 => ⟨S5x256, .f32⟩
  | 115 => ⟨S5x256, .f32⟩
  | 116 => ⟨S5x256, .f32⟩
  | 117 => ⟨S5x256, .f32⟩
  | 118 => ⟨S5x256, .f32⟩
  | 119 => ⟨S5x256, .f32⟩
  | 120 => ⟨S5x256, .f32⟩
  | 121 => ⟨S5x256, .f32⟩
  | 122 => ⟨S5x256, .f32⟩
  | 123 => ⟨S5x256, .f32⟩
  | 124 => ⟨S5x256, .f32⟩
  | 125 => ⟨S5x256, .f32⟩
  | 126 => ⟨S5x256, .f32⟩
  | 127 => ⟨S5x256, .f32⟩
  | _ => ⟨S64x2048x16x16, .f32⟩

abbrev hbmTy0_2 (i : Nat) : BufTy := match i % 128 with
  | 0 => ⟨S5x256, .f32⟩
  | 1 => ⟨S5x256, .f32⟩
  | 2 => ⟨S5x256, .f32⟩
  | 3 => ⟨S5x256, .f32⟩
  | 4 => ⟨S5x256, .f32⟩
  | 5 => ⟨S5x256, .f32⟩
  | 6 => ⟨S5x256, .f32⟩
  | 7 => ⟨S5x256, .f32⟩
  | 8 => ⟨S5x256, .f32⟩
  | 9 => ⟨S5x256, .f32⟩
  | 10 => ⟨S5x256, .f32⟩
  | 11 => ⟨S5x256, .f32⟩
  | 12 => ⟨S5x256, .f32⟩
  | 13 => ⟨S5x256, .f32⟩
  | 14 => ⟨S5x1x256, .f32⟩
  | 15 => ⟨S5x1x256, .f32⟩
  | 16 => ⟨S5x1x256, .f32⟩
  | 17 => ⟨S5x1x256, .f32⟩
  | 18 => ⟨S5x1x256, .f32⟩
  | 19 => ⟨S5x1x256, .f32⟩
  | 20 => ⟨S5x1x256, .f32⟩
  | 21 => ⟨S5x1x256, .f32⟩
  | 22 => ⟨S5x1x256, .f32⟩
  | 23 => ⟨S5x1x256, .f32⟩
  | 24 => ⟨S5x1x256, .f32⟩
  | 25 => ⟨S5x1x256, .f32⟩
  | 26 => ⟨S5x1x256, .f32⟩
  | 27 => ⟨S5x1x256, .f32⟩
  | 28 => ⟨S5x1x256, .f32⟩
  | 29 => ⟨S5x1x256, .f32⟩
  | 30 => ⟨S5x1x256, .f32⟩
  | 31 => ⟨S5x1x256, .f32⟩
  | 32 => ⟨S5x1x256, .f32⟩
  | 33 => ⟨S5x1x256, .f32⟩
  | 34 => ⟨S5x1x256, .f32⟩
  | 35 => ⟨S5x1x256, .f32⟩
  | 36 => ⟨S5x1x256, .f32⟩
  | 37 => ⟨S5x1x256, .f32⟩
  | 38 => ⟨S5x1x256, .f32⟩
  | 39 => ⟨S5x1x256, .f32⟩
  | 40 => ⟨S5x1x256, .f32⟩
  | 41 => ⟨S5x1x256, .f32⟩
  | 42 => ⟨S5x1x256, .f32⟩
  | 43 => ⟨S5x1x256, .f32⟩
  | 44 => ⟨S5x1x256, .f32⟩
  | 45 => ⟨S5x1x256, .f32⟩
  | 46 => ⟨S5x1x256, .f32⟩
  | 47 => ⟨S5x1x256, .f32⟩
  | 48 => ⟨S5x1x256, .f32⟩
  | 49 => ⟨S5x1x256, .f32⟩
  | 50 => ⟨S5x1x256, .f32⟩
  | 51 => ⟨S5x1x256, .f32⟩
  | 52 => ⟨S5x1x256, .f32⟩
  | 53 => ⟨S5x1x256, .f32⟩
  | 54 => ⟨S5x1x256, .f32⟩
  | 55 => ⟨S5x1x256, .f32⟩
  | 56 => ⟨S5x1x256, .f32⟩
  | 57 => ⟨S5x1x256, .f32⟩
  | 58 => ⟨S5x1x256, .f32⟩
  | 59 => ⟨S5x1x256, .f32⟩
  | 60 => ⟨S5x1x256, .f32⟩
  | 61 => ⟨S5x1x256, .f32⟩
  | 62 => ⟨S5x1x256, .f32⟩
  | 63 => ⟨S5x1x256, .f32⟩
  | 64 => ⟨S5x1x256, .f32⟩
  | 65 => ⟨S5x1x256, .f32⟩
  | 66 => ⟨S5x1x256, .f32⟩
  | 67 => ⟨S5x1x256, .f32⟩
  | 68 => ⟨S5x1x256, .f32⟩
  | 69 => ⟨S5x1x256, .f32⟩
  | 70 => ⟨S5x1x256, .f32⟩
  | 71 => ⟨S5x1x256, .f32⟩
  | 72 => ⟨S5x1x256, .f32⟩
  | 73 => ⟨S5x1x256, .f32⟩
  | 74 => ⟨S5x1x256, .f32⟩
  | 75 => ⟨S5x1x256, .f32⟩
  | 76 => ⟨S5x1x256, .f32⟩
  | 77 => ⟨S5x1x256, .f32⟩
  | 78 => ⟨S5x1x256, .f32⟩
  | 79 => ⟨S5x1x256, .f32⟩
  | 80 => ⟨S5x1x256, .f32⟩
  | 81 => ⟨S5x1x256, .f32⟩
  | 82 => ⟨S5x1x256, .f32⟩
  | 83 => ⟨S5x1x256, .f32⟩
  | 84 => ⟨S5x1x256, .f32⟩
  | 85 => ⟨S5x1x256, .f32⟩
  | 86 => ⟨S5x1x256, .f32⟩
  | 87 => ⟨S5x1x256, .f32⟩
  | 88 => ⟨S5x1x256, .f32⟩
  | 89 => ⟨S5x1x256, .f32⟩
  | 90 => ⟨S5x1x256, .f32⟩
  | 91 => ⟨S5x1x256, .f32⟩
  | 92 => ⟨S5x1x256, .f32⟩
  | 93 => ⟨S5x1x256, .f32⟩
  | 94 => ⟨S5x1x256, .f32⟩
  | 95 => ⟨S5x1x256, .f32⟩
  | 96 => ⟨S5x1x256, .f32⟩
  | 97 => ⟨S5x1x256, .f32⟩
  | 98 => ⟨S5x1x256, .f32⟩
  | 99 => ⟨S5x1x256, .f32⟩
  | 100 => ⟨S5x1x256, .f32⟩
  | 101 => ⟨S5x1x256, .f32⟩
  | 102 => ⟨S5x1x256, .f32⟩
  | 103 => ⟨S5x1x256, .f32⟩
  | 104 => ⟨S5x1x256, .f32⟩
  | 105 => ⟨S5x1x256, .f32⟩
  | 106 => ⟨S5x1x256, .f32⟩
  | 107 => ⟨S5x1x256, .f32⟩
  | 108 => ⟨S5x1x256, .f32⟩
  | 109 => ⟨S5x1x256, .f32⟩
  | 110 => ⟨S5x1x256, .f32⟩
  | 111 => ⟨S5x1x256, .f32⟩
  | 112 => ⟨S5x1x256, .f32⟩
  | 113 => ⟨S5x1x256, .f32⟩
  | 114 => ⟨S5x1x256, .f32⟩
  | 115 => ⟨S5x1x256, .f32⟩
  | 116 => ⟨S5x1x256, .f32⟩
  | 117 => ⟨S5x1x256, .f32⟩
  | 118 => ⟨S5x1x256, .f32⟩
  | 119 => ⟨S5x1x256, .f32⟩
  | 120 => ⟨S5x1x256, .f32⟩
  | 121 => ⟨S5x1x256, .f32⟩
  | 122 => ⟨S5x1x256, .f32⟩
  | 123 => ⟨S5x1x256, .f32⟩
  | 124 => ⟨S5x1x256, .f32⟩
  | 125 => ⟨S5x1x256, .f32⟩
  | 126 => ⟨S5x1x256, .f32⟩
  | 127 => ⟨S5x1x256, .f32⟩
  | _ => ⟨S64x2048x16x16, .f32⟩

abbrev hbmTy0_3 (i : Nat) : BufTy := match i % 128 with
  | 0 => ⟨S5x1x256, .f32⟩
  | 1 => ⟨S5x1x256, .f32⟩
  | 2 => ⟨S5x1x256, .f32⟩
  | 3 => ⟨S5x1x256, .f32⟩
  | 4 => ⟨S5x1x256, .f32⟩
  | 5 => ⟨S5x1x256, .f32⟩
  | 6 => ⟨S5x1x256, .f32⟩
  | 7 => ⟨S5x1x256, .f32⟩
  | 8 => ⟨S5x1x256, .f32⟩
  | 9 => ⟨S5x1x256, .f32⟩
  | 10 => ⟨S5x1x256, .f32⟩
  | 11 => ⟨S5x1x256, .f32⟩
  | 12 => ⟨S5x1x256, .f32⟩
  | 13 => ⟨S5x1x256, .f32⟩
  | 14 => ⟨S5x1x256, .f32⟩
  | 15 => ⟨S5x1x256, .f32⟩
  | 16 => ⟨S5x1x256, .f32⟩
  | 17 => ⟨S5x1x256, .f32⟩
  | 18 => ⟨S5x1x256, .f32⟩
  | 19 => ⟨S5x1x256, .f32⟩
  | 20 => ⟨S5x1x256, .f32⟩
  | 21 => ⟨S5x1x256, .f32⟩
  | 22 => ⟨S5x1x256, .f32⟩
  | 23 => ⟨S5x1x256, .f32⟩
  | 24 => ⟨S5x1x256, .f32⟩
  | 25 => ⟨S5x1x256, .f32⟩
  | 26 => ⟨S5x1x256, .f32⟩
  | 27 => ⟨S5x1x256, .f32⟩
  | 28 => ⟨S5x1x256, .f32⟩
  | 29 => ⟨S5x1x256, .f32⟩
  | 30 => ⟨S5x1x256, .f32⟩
  | 31 => ⟨S5x1x256, .f32⟩
  | 32 => ⟨S5x1x256, .f32⟩
  | 33 => ⟨S5x1x256, .f32⟩
  | 34 => ⟨S5x1x256, .f32⟩
  | 35 => ⟨S5x1x256, .f32⟩
  | 36 => ⟨S5x1x256, .f32⟩
  | 37 => ⟨S5x1x256, .f32⟩
  | 38 => ⟨S5x1x256, .f32⟩
  | 39 => ⟨S5x1x256, .f32⟩
  | 40 => ⟨S5x1x256, .f32⟩
  | 41 => ⟨S5x1x256, .f32⟩
  | 42 => ⟨S5x1x256, .f32⟩
  | 43 => ⟨S5x1x256, .f32⟩
  | 44 => ⟨S5x1x256, .f32⟩
  | 45 => ⟨S5x1x256, .f32⟩
  | 46 => ⟨S5x1x256, .f32⟩
  | 47 => ⟨S5x1x256, .f32⟩
  | 48 => ⟨S5x1x256, .f32⟩
  | 49 => ⟨S5x1x256, .f32⟩
  | 50 => ⟨S5x1x256, .f32⟩
  | 51 => ⟨S5x1x256, .f32⟩
  | 52 => ⟨S5x1x256, .f32⟩
  | 53 => ⟨S5x1x256, .f32⟩
  | 54 => ⟨S5x1x256, .f32⟩
  | 55 => ⟨S5x1x256, .f32⟩
  | 56 => ⟨S5x1x256, .f32⟩
  | 57 => ⟨S5x1x256, .f32⟩
  | 58 => ⟨S5x1x256, .f32⟩
  | 59 => ⟨S5x1x256, .f32⟩
  | 60 => ⟨S5x1x256, .f32⟩
  | 61 => ⟨S5x1x256, .f32⟩
  | 62 => ⟨S5x1x256, .f32⟩
  | 63 => ⟨S5x1x256, .f32⟩
  | 64 => ⟨S5x1x256, .f32⟩
  | 65 => ⟨S5x1x256, .f32⟩
  | 66 => ⟨S5x1x256, .f32⟩
  | 67 => ⟨S5x1x256, .f32⟩
  | 68 => ⟨S5x1x256, .f32⟩
  | 69 => ⟨S5x1x256, .f32⟩
  | 70 => ⟨S5x1x256, .f32⟩
  | 71 => ⟨S5x1x256, .f32⟩
  | 72 => ⟨S5x1x256, .f32⟩
  | 73 => ⟨S5x1x256, .f32⟩
  | 74 => ⟨S5x1x256, .f32⟩
  | 75 => ⟨S5x1x256, .f32⟩
  | 76 => ⟨S5x1x256, .f32⟩
  | 77 => ⟨S5x1x256, .f32⟩
  | 78 => ⟨S5x1x256, .f32⟩
  | 79 => ⟨S5x1x256, .f32⟩
  | 80 => ⟨S5x1x256, .f32⟩
  | 81 => ⟨S5x1x256, .f32⟩
  | 82 => ⟨S5x1x256, .f32⟩
  | 83 => ⟨S5x1x256, .f32⟩
  | 84 => ⟨S5x1x256, .f32⟩
  | 85 => ⟨S5x1x256, .f32⟩
  | 86 => ⟨S5x1x256, .f32⟩
  | 87 => ⟨S5x1x256, .f32⟩
  | 88 => ⟨S5x1x256, .f32⟩
  | 89 => ⟨S5x1x256, .f32⟩
  | 90 => ⟨S5x1x256, .f32⟩
  | 91 => ⟨S5x1x256, .f32⟩
  | 92 => ⟨S5x1x256, .f32⟩
  | 93 => ⟨S5x1x256, .f32⟩
  | 94 => ⟨S5x1x256, .f32⟩
  | 95 => ⟨S5x1x256, .f32⟩
  | 96 => ⟨S5x1x256, .f32⟩
  | 97 => ⟨S5x1x256, .f32⟩
  | 98 => ⟨S5x1x256, .f32⟩
  | 99 => ⟨S5x1x256, .f32⟩
  | 100 => ⟨S5x1x256, .f32⟩
  | 101 => ⟨S5x1x256, .f32⟩
  | 102 => ⟨S5x1x256, .f32⟩
  | 103 => ⟨S5x1x256, .f32⟩
  | 104 => ⟨S5x1x256, .f32⟩
  | 105 => ⟨S5x1x256, .f32⟩
  | 106 => ⟨S5x1x256, .f32⟩
  | 107 => ⟨S5x1x256, .f32⟩
  | 108 => ⟨S5x1x256, .f32⟩
  | 109 => ⟨S5x1x256, .f32⟩
  | 110 => ⟨S5x1x256, .f32⟩
  | 111 => ⟨S5x1x256, .f32⟩
  | 112 => ⟨S5x1x256, .f32⟩
  | 113 => ⟨S5x1x256, .f32⟩
  | 114 => ⟨S5x1x256, .f32⟩
  | 115 => ⟨S5x1x256, .f32⟩
  | 116 => ⟨S5x1x256, .f32⟩
  | 117 => ⟨S5x1x256, .f32⟩
  | 118 => ⟨S5x1x256, .f32⟩
  | 119 => ⟨S5x1x256, .f32⟩
  | 120 => ⟨S5x1x256, .f32⟩
  | 121 => ⟨S5x1x256, .f32⟩
  | 122 => ⟨S5x1x256, .f32⟩
  | 123 => ⟨S5x1x256, .f32⟩
  | 124 => ⟨S5x1x256, .f32⟩
  | 125 => ⟨S5x1x256, .f32⟩
  | 126 => ⟨S5x1x256, .f32⟩
  | 127 => ⟨S5x1x256, .f32⟩
  | _ => ⟨S64x2048x16x16, .f32⟩

abbrev hbmTy0_4 (i : Nat) : BufTy := match i % 128 with
  | 0 => ⟨S5x1x256, .f32⟩
  | 1 => ⟨S5x1x256, .f32⟩
  | 2 => ⟨S5x1x256, .f32⟩
  | 3 => ⟨S5x1x256, .f32⟩
  | 4 => ⟨S5x1x256, .f32⟩
  | 5 => ⟨S5x1x256, .f32⟩
  | 6 => ⟨S5x1x256, .f32⟩
  | 7 => ⟨S5x1x256, .f32⟩
  | 8 => ⟨S5x1x256, .f32⟩
  | 9 => ⟨S5x1x256, .f32⟩
  | 10 => ⟨S5x1x256, .f32⟩
  | 11 => ⟨S5x1x256, .f32⟩
  | 12 => ⟨S5x1x256, .f32⟩
  | 13 => ⟨S5x1x256, .f32⟩
  | 14 => ⟨S5x16x256, .f32⟩
  | 15 => ⟨S5x16x256, .f32⟩
  | 16 => ⟨S5x16x256, .f32⟩
  | 17 => ⟨S5x16x256, .f32⟩
  | 18 => ⟨S5x16x256, .f32⟩
  | 19 => ⟨S5x16x256, .f32⟩
  | 20 => ⟨S5x16x256, .f32⟩
  | 21 => ⟨S5x16x256, .f32⟩
  | 22 => ⟨S5x16x256, .f32⟩
  | 23 => ⟨S5x16x256, .f32⟩
  | 24 => ⟨S5x16x256, .f32⟩
  | 25 => ⟨S5x16x256, .f32⟩
  | 26 => ⟨S5x16x256, .f32⟩
  | 27 => ⟨S5x16x256, .f32⟩
  | 28 => ⟨S5x16x256, .f32⟩
  | 29 => ⟨S5x16x256, .f32⟩
  | 30 => ⟨S5x256x256, .f32⟩
  | 31 => ⟨S5x256x256, .f32⟩
  | 32 => ⟨S5x256x256, .f32⟩
  | 33 => ⟨S64x1x128, .f32⟩
  | 34 => ⟨S64x1x5, .f32⟩
  | 35 => ⟨S64x5, .f32⟩
  | 36 => ⟨S64x4, .f32⟩
  | 37 => ⟨S1x4, .f32⟩
  | 38 => ⟨S64x4, .f32⟩
  | 39 => ⟨S64x4, .f32⟩
  | 40 => ⟨S64x1, .f32⟩
  | 41 => ⟨S1x1, .f32⟩
  | 42 => ⟨S64x1, .f32⟩
  | 43 => ⟨S64x1, .f32⟩
  | _ => ⟨S64x2048x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x2048x16x16, .f32⟩

abbrev bufTy : (tb : Table) → Fin (tcTables nBuf tb) → BufTy
  | .hbm, ⟨i, _⟩ => hbmTy i
  | .local _ .vmem, ⟨0, _⟩ => ⟨S8x2048x256, .f32⟩
  | .local _ .vmem, ⟨1, _⟩ => ⟨S8x2048x256, .f32⟩
  | .local _ .vmem, ⟨2, _⟩ => ⟨S256x2048, .f32⟩
  | .local _ .vmem, ⟨3, _⟩ => ⟨S5x256x256, .f32⟩
  | .local _ .vmem, ⟨4, _⟩ => ⟨S8x1x128, .f32⟩
  | .local _ .vmem, ⟨5, _⟩ => ⟨S8x1x128, .f32⟩
  | _, _ => ⟨S64x2048x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_c : Ref sig .tc := ⟨.hbm, 11, rfl⟩
abbrev main_call0_call0_v0 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42 : Ref sig .tc := ⟨.hbm, 52, rfl⟩
abbrev main_call0_v43 : Ref sig .tc := ⟨.hbm, 53, rfl⟩
abbrev main_call0_v44 : Ref sig .tc := ⟨.hbm, 54, rfl⟩
abbrev main_call0_v45 : Ref sig .tc := ⟨.hbm, 55, rfl⟩
abbrev main_call0_v46 : Ref sig .tc := ⟨.hbm, 56, rfl⟩
abbrev main_call0_v47 : Ref sig .tc := ⟨.hbm, 57, rfl⟩
abbrev main_call0_v48 : Ref sig .tc := ⟨.hbm, 58, rfl⟩
abbrev main_call0_v49 : Ref sig .tc := ⟨.hbm, 59, rfl⟩
abbrev main_call0_v50 : Ref sig .tc := ⟨.hbm, 60, rfl⟩
abbrev main_call0_v51 : Ref sig .tc := ⟨.hbm, 61, rfl⟩
abbrev main_call0_v52 : Ref sig .tc := ⟨.hbm, 62, rfl⟩
abbrev main_call0_v53 : Ref sig .tc := ⟨.hbm, 63, rfl⟩
abbrev main_call0_v54 : Ref sig .tc := ⟨.hbm, 64, rfl⟩
abbrev main_call0_v55 : Ref sig .tc := ⟨.hbm, 65, rfl⟩
abbrev main_call0_v56 : Ref sig .tc := ⟨.hbm, 66, rfl⟩
abbrev main_call0_v57 : Ref sig .tc := ⟨.hbm, 67, rfl⟩
abbrev main_call0_v58 : Ref sig .tc := ⟨.hbm, 68, rfl⟩
abbrev main_call0_v59 : Ref sig .tc := ⟨.hbm, 69, rfl⟩
abbrev main_call0_v60 : Ref sig .tc := ⟨.hbm, 70, rfl⟩
abbrev main_call0_v61 : Ref sig .tc := ⟨.hbm, 71, rfl⟩
abbrev main_call0_v62 : Ref sig .tc := ⟨.hbm, 72, rfl⟩
abbrev main_call0_v63 : Ref sig .tc := ⟨.hbm, 73, rfl⟩
abbrev main_call0_v64 : Ref sig .tc := ⟨.hbm, 74, rfl⟩
abbrev main_call0_v65 : Ref sig .tc := ⟨.hbm, 75, rfl⟩
abbrev main_call0_v66 : Ref sig .tc := ⟨.hbm, 76, rfl⟩
abbrev main_call0_v67 : Ref sig .tc := ⟨.hbm, 77, rfl⟩
abbrev main_call0_v68 : Ref sig .tc := ⟨.hbm, 78, rfl⟩
abbrev main_call0_v69 : Ref sig .tc := ⟨.hbm, 79, rfl⟩
abbrev main_call0_v70 : Ref sig .tc := ⟨.hbm, 80, rfl⟩
abbrev main_call0_v71 : Ref sig .tc := ⟨.hbm, 81, rfl⟩
abbrev main_call0_v72 : Ref sig .tc := ⟨.hbm, 82, rfl⟩
abbrev main_call0_v73 : Ref sig .tc := ⟨.hbm, 83, rfl⟩
abbrev main_call0_v74 : Ref sig .tc := ⟨.hbm, 84, rfl⟩
abbrev main_call0_v75 : Ref sig .tc := ⟨.hbm, 85, rfl⟩
abbrev main_call0_v76 : Ref sig .tc := ⟨.hbm, 86, rfl⟩
abbrev main_call0_v77 : Ref sig .tc := ⟨.hbm, 87, rfl⟩
abbrev main_call0_v78 : Ref sig .tc := ⟨.hbm, 88, rfl⟩
abbrev main_call0_v79 : Ref sig .tc := ⟨.hbm, 89, rfl⟩
abbrev main_call0_v80 : Ref sig .tc := ⟨.hbm, 90, rfl⟩
abbrev main_call0_v81 : Ref sig .tc := ⟨.hbm, 91, rfl⟩
abbrev main_call0_v82 : Ref sig .tc := ⟨.hbm, 92, rfl⟩
abbrev main_call0_v83 : Ref sig .tc := ⟨.hbm, 93, rfl⟩
abbrev main_call0_v84 : Ref sig .tc := ⟨.hbm, 94, rfl⟩
abbrev main_call0_v85 : Ref sig .tc := ⟨.hbm, 95, rfl⟩
abbrev main_call0_v86 : Ref sig .tc := ⟨.hbm, 96, rfl⟩
abbrev main_call0_v87 : Ref sig .tc := ⟨.hbm, 97, rfl⟩
abbrev main_call0_v88 : Ref sig .tc := ⟨.hbm, 98, rfl⟩
abbrev main_call0_v89 : Ref sig .tc := ⟨.hbm, 99, rfl⟩
abbrev main_call0_v90 : Ref sig .tc := ⟨.hbm, 100, rfl⟩
abbrev main_call0_v91 : Ref sig .tc := ⟨.hbm, 101, rfl⟩
abbrev main_call0_v92 : Ref sig .tc := ⟨.hbm, 102, rfl⟩
abbrev main_call0_v93 : Ref sig .tc := ⟨.hbm, 103, rfl⟩
abbrev main_call0_v94 : Ref sig .tc := ⟨.hbm, 104, rfl⟩
abbrev main_call0_v95 : Ref sig .tc := ⟨.hbm, 105, rfl⟩
abbrev main_call0_v96 : Ref sig .tc := ⟨.hbm, 106, rfl⟩
abbrev main_call0_v97 : Ref sig .tc := ⟨.hbm, 107, rfl⟩
abbrev main_call0_v98 : Ref sig .tc := ⟨.hbm, 108, rfl⟩
abbrev main_call0_v99 : Ref sig .tc := ⟨.hbm, 109, rfl⟩
abbrev main_call0_v100 : Ref sig .tc := ⟨.hbm, 110, rfl⟩
abbrev main_call0_v101 : Ref sig .tc := ⟨.hbm, 111, rfl⟩
abbrev main_call0_v102 : Ref sig .tc := ⟨.hbm, 112, rfl⟩
abbrev main_call0_v103 : Ref sig .tc := ⟨.hbm, 113, rfl⟩
abbrev main_call0_v104 : Ref sig .tc := ⟨.hbm, 114, rfl⟩
abbrev main_call0_v105 : Ref sig .tc := ⟨.hbm, 115, rfl⟩
abbrev main_call0_v106 : Ref sig .tc := ⟨.hbm, 116, rfl⟩
abbrev main_call0_v107 : Ref sig .tc := ⟨.hbm, 117, rfl⟩
abbrev main_call0_v108 : Ref sig .tc := ⟨.hbm, 118, rfl⟩
abbrev main_call0_v109 : Ref sig .tc := ⟨.hbm, 119, rfl⟩
abbrev main_call0_v110 : Ref sig .tc := ⟨.hbm, 120, rfl⟩
abbrev main_call0_v111 : Ref sig .tc := ⟨.hbm, 121, rfl⟩
abbrev main_call0_v112 : Ref sig .tc := ⟨.hbm, 122, rfl⟩
abbrev main_call0_v113 : Ref sig .tc := ⟨.hbm, 123, rfl⟩
abbrev main_call0_v114 : Ref sig .tc := ⟨.hbm, 124, rfl⟩
abbrev main_call0_v115 : Ref sig .tc := ⟨.hbm, 125, rfl⟩
abbrev main_call0_v116 : Ref sig .tc := ⟨.hbm, 126, rfl⟩
abbrev main_call0_v117 : Ref sig .tc := ⟨.hbm, 127, rfl⟩
abbrev main_call0_v118 : Ref sig .tc := ⟨.hbm, 128, rfl⟩
abbrev main_call0_v119 : Ref sig .tc := ⟨.hbm, 129, rfl⟩
abbrev main_call0_v120 : Ref sig .tc := ⟨.hbm, 130, rfl⟩
abbrev main_call0_v121 : Ref sig .tc := ⟨.hbm, 131, rfl⟩
abbrev main_call0_v122 : Ref sig .tc := ⟨.hbm, 132, rfl⟩
abbrev main_call0_v123 : Ref sig .tc := ⟨.hbm, 133, rfl⟩
abbrev main_call0_v124 : Ref sig .tc := ⟨.hbm, 134, rfl⟩
abbrev main_call0_v125 : Ref sig .tc := ⟨.hbm, 135, rfl⟩
abbrev main_call0_v126 : Ref sig .tc := ⟨.hbm, 136, rfl⟩
abbrev main_call0_v127 : Ref sig .tc := ⟨.hbm, 137, rfl⟩
abbrev main_call0_v128 : Ref sig .tc := ⟨.hbm, 138, rfl⟩
abbrev main_call0_v129 : Ref sig .tc := ⟨.hbm, 139, rfl⟩
abbrev main_call0_v130 : Ref sig .tc := ⟨.hbm, 140, rfl⟩
abbrev main_call0_v131 : Ref sig .tc := ⟨.hbm, 141, rfl⟩
abbrev main_call0_v132 : Ref sig .tc := ⟨.hbm, 142, rfl⟩
abbrev main_call0_v133 : Ref sig .tc := ⟨.hbm, 143, rfl⟩
abbrev main_call0_v134 : Ref sig .tc := ⟨.hbm, 144, rfl⟩
abbrev main_call0_v135 : Ref sig .tc := ⟨.hbm, 145, rfl⟩
abbrev main_call0_v136 : Ref sig .tc := ⟨.hbm, 146, rfl⟩
abbrev main_call0_v137 : Ref sig .tc := ⟨.hbm, 147, rfl⟩
abbrev main_call0_v138 : Ref sig .tc := ⟨.hbm, 148, rfl⟩
abbrev main_call0_v139 : Ref sig .tc := ⟨.hbm, 149, rfl⟩
abbrev main_call0_v140 : Ref sig .tc := ⟨.hbm, 150, rfl⟩
abbrev main_call0_v141 : Ref sig .tc := ⟨.hbm, 151, rfl⟩
abbrev main_call0_v142 : Ref sig .tc := ⟨.hbm, 152, rfl⟩
abbrev main_call0_v143 : Ref sig .tc := ⟨.hbm, 153, rfl⟩
abbrev main_call0_v144 : Ref sig .tc := ⟨.hbm, 154, rfl⟩
abbrev main_call0_v145 : Ref sig .tc := ⟨.hbm, 155, rfl⟩
abbrev main_call0_v146 : Ref sig .tc := ⟨.hbm, 156, rfl⟩
abbrev main_call0_v147 : Ref sig .tc := ⟨.hbm, 157, rfl⟩
abbrev main_call0_v148 : Ref sig .tc := ⟨.hbm, 158, rfl⟩
abbrev main_call0_v149 : Ref sig .tc := ⟨.hbm, 159, rfl⟩
abbrev main_call0_v150 : Ref sig .tc := ⟨.hbm, 160, rfl⟩
abbrev main_call0_v151 : Ref sig .tc := ⟨.hbm, 161, rfl⟩
abbrev main_call0_v152 : Ref sig .tc := ⟨.hbm, 162, rfl⟩
abbrev main_call0_v153 : Ref sig .tc := ⟨.hbm, 163, rfl⟩
abbrev main_call0_v154 : Ref sig .tc := ⟨.hbm, 164, rfl⟩
abbrev main_call0_v155 : Ref sig .tc := ⟨.hbm, 165, rfl⟩
abbrev main_call0_v156 : Ref sig .tc := ⟨.hbm, 166, rfl⟩
abbrev main_call0_v157 : Ref sig .tc := ⟨.hbm, 167, rfl⟩
abbrev main_call0_v158 : Ref sig .tc := ⟨.hbm, 168, rfl⟩
abbrev main_call0_v159 : Ref sig .tc := ⟨.hbm, 169, rfl⟩
abbrev main_call0_v160 : Ref sig .tc := ⟨.hbm, 170, rfl⟩
abbrev main_call0_v161 : Ref sig .tc := ⟨.hbm, 171, rfl⟩
abbrev main_call0_v162 : Ref sig .tc := ⟨.hbm, 172, rfl⟩
abbrev main_call0_v163 : Ref sig .tc := ⟨.hbm, 173, rfl⟩
abbrev main_call0_v164 : Ref sig .tc := ⟨.hbm, 174, rfl⟩
abbrev main_call0_v165 : Ref sig .tc := ⟨.hbm, 175, rfl⟩
abbrev main_call0_v166 : Ref sig .tc := ⟨.hbm, 176, rfl⟩
abbrev main_call0_v167 : Ref sig .tc := ⟨.hbm, 177, rfl⟩
abbrev main_call0_v168 : Ref sig .tc := ⟨.hbm, 178, rfl⟩
abbrev main_call0_v169 : Ref sig .tc := ⟨.hbm, 179, rfl⟩
abbrev main_call0_v170 : Ref sig .tc := ⟨.hbm, 180, rfl⟩
abbrev main_call0_v171 : Ref sig .tc := ⟨.hbm, 181, rfl⟩
abbrev main_call0_v172 : Ref sig .tc := ⟨.hbm, 182, rfl⟩
abbrev main_call0_v173 : Ref sig .tc := ⟨.hbm, 183, rfl⟩
abbrev main_call0_v174 : Ref sig .tc := ⟨.hbm, 184, rfl⟩
abbrev main_call0_v175 : Ref sig .tc := ⟨.hbm, 185, rfl⟩
abbrev main_call0_v176 : Ref sig .tc := ⟨.hbm, 186, rfl⟩
abbrev main_call0_v177 : Ref sig .tc := ⟨.hbm, 187, rfl⟩
abbrev main_call0_v178 : Ref sig .tc := ⟨.hbm, 188, rfl⟩
abbrev main_call0_v179 : Ref sig .tc := ⟨.hbm, 189, rfl⟩
abbrev main_call0_v180 : Ref sig .tc := ⟨.hbm, 190, rfl⟩
abbrev main_call0_v181 : Ref sig .tc := ⟨.hbm, 191, rfl⟩
abbrev main_call0_v182 : Ref sig .tc := ⟨.hbm, 192, rfl⟩
abbrev main_call0_v183 : Ref sig .tc := ⟨.hbm, 193, rfl⟩
abbrev main_call0_v184 : Ref sig .tc := ⟨.hbm, 194, rfl⟩
abbrev main_call0_v185 : Ref sig .tc := ⟨.hbm, 195, rfl⟩
abbrev main_call0_v186 : Ref sig .tc := ⟨.hbm, 196, rfl⟩
abbrev main_call0_v187 : Ref sig .tc := ⟨.hbm, 197, rfl⟩
abbrev main_call0_v188 : Ref sig .tc := ⟨.hbm, 198, rfl⟩
abbrev main_call0_v189 : Ref sig .tc := ⟨.hbm, 199, rfl⟩
abbrev main_call0_v190 : Ref sig .tc := ⟨.hbm, 200, rfl⟩
abbrev main_call0_v191 : Ref sig .tc := ⟨.hbm, 201, rfl⟩
abbrev main_call0_v192 : Ref sig .tc := ⟨.hbm, 202, rfl⟩
abbrev main_call0_v193 : Ref sig .tc := ⟨.hbm, 203, rfl⟩
abbrev main_call0_v194 : Ref sig .tc := ⟨.hbm, 204, rfl⟩
abbrev main_call0_v195 : Ref sig .tc := ⟨.hbm, 205, rfl⟩
abbrev main_call0_v196 : Ref sig .tc := ⟨.hbm, 206, rfl⟩
abbrev main_call0_v197 : Ref sig .tc := ⟨.hbm, 207, rfl⟩
abbrev main_call0_v198 : Ref sig .tc := ⟨.hbm, 208, rfl⟩
abbrev main_call0_v199 : Ref sig .tc := ⟨.hbm, 209, rfl⟩
abbrev main_call0_v200 : Ref sig .tc := ⟨.hbm, 210, rfl⟩
abbrev main_call0_v201 : Ref sig .tc := ⟨.hbm, 211, rfl⟩
abbrev main_call0_v202 : Ref sig .tc := ⟨.hbm, 212, rfl⟩
abbrev main_call0_v203 : Ref sig .tc := ⟨.hbm, 213, rfl⟩
abbrev main_call0_v204 : Ref sig .tc := ⟨.hbm, 214, rfl⟩
abbrev main_call0_v205 : Ref sig .tc := ⟨.hbm, 215, rfl⟩
abbrev main_call0_v206 : Ref sig .tc := ⟨.hbm, 216, rfl⟩
abbrev main_call0_v207 : Ref sig .tc := ⟨.hbm, 217, rfl⟩
abbrev main_call0_v208 : Ref sig .tc := ⟨.hbm, 218, rfl⟩
abbrev main_call0_v209 : Ref sig .tc := ⟨.hbm, 219, rfl⟩
abbrev main_call0_v210 : Ref sig .tc := ⟨.hbm, 220, rfl⟩
abbrev main_call0_v211 : Ref sig .tc := ⟨.hbm, 221, rfl⟩
abbrev main_call0_v212 : Ref sig .tc := ⟨.hbm, 222, rfl⟩
abbrev main_call0_v213 : Ref sig .tc := ⟨.hbm, 223, rfl⟩
abbrev main_call0_v214 : Ref sig .tc := ⟨.hbm, 224, rfl⟩
abbrev main_call0_v215 : Ref sig .tc := ⟨.hbm, 225, rfl⟩
abbrev main_call0_v216 : Ref sig .tc := ⟨.hbm, 226, rfl⟩
abbrev main_call0_v217 : Ref sig .tc := ⟨.hbm, 227, rfl⟩
abbrev main_call0_v218 : Ref sig .tc := ⟨.hbm, 228, rfl⟩
abbrev main_call0_v219 : Ref sig .tc := ⟨.hbm, 229, rfl⟩
abbrev main_call0_v220 : Ref sig .tc := ⟨.hbm, 230, rfl⟩
abbrev main_call0_v221 : Ref sig .tc := ⟨.hbm, 231, rfl⟩
abbrev main_call0_v222 : Ref sig .tc := ⟨.hbm, 232, rfl⟩
abbrev main_call0_v223 : Ref sig .tc := ⟨.hbm, 233, rfl⟩
abbrev main_call0_v224 : Ref sig .tc := ⟨.hbm, 234, rfl⟩
abbrev main_call0_v225 : Ref sig .tc := ⟨.hbm, 235, rfl⟩
abbrev main_call0_v226 : Ref sig .tc := ⟨.hbm, 236, rfl⟩
abbrev main_call0_v227 : Ref sig .tc := ⟨.hbm, 237, rfl⟩
abbrev main_call0_v228 : Ref sig .tc := ⟨.hbm, 238, rfl⟩
abbrev main_call0_v229 : Ref sig .tc := ⟨.hbm, 239, rfl⟩
abbrev main_call0_v230 : Ref sig .tc := ⟨.hbm, 240, rfl⟩
abbrev main_call0_v231 : Ref sig .tc := ⟨.hbm, 241, rfl⟩
abbrev main_call0_v232 : Ref sig .tc := ⟨.hbm, 242, rfl⟩
abbrev main_call0_v233 : Ref sig .tc := ⟨.hbm, 243, rfl⟩
abbrev main_call0_v234 : Ref sig .tc := ⟨.hbm, 244, rfl⟩
abbrev main_call0_v235 : Ref sig .tc := ⟨.hbm, 245, rfl⟩
abbrev main_call0_v236 : Ref sig .tc := ⟨.hbm, 246, rfl⟩
abbrev main_call0_v237 : Ref sig .tc := ⟨.hbm, 247, rfl⟩
abbrev main_call0_v238 : Ref sig .tc := ⟨.hbm, 248, rfl⟩
abbrev main_call0_v239 : Ref sig .tc := ⟨.hbm, 249, rfl⟩
abbrev main_call0_v240 : Ref sig .tc := ⟨.hbm, 250, rfl⟩
abbrev main_call0_v241 : Ref sig .tc := ⟨.hbm, 251, rfl⟩
abbrev main_call0_v242 : Ref sig .tc := ⟨.hbm, 252, rfl⟩
abbrev main_call0_v243 : Ref sig .tc := ⟨.hbm, 253, rfl⟩
abbrev main_call0_v244 : Ref sig .tc := ⟨.hbm, 254, rfl⟩
abbrev main_call0_v245 : Ref sig .tc := ⟨.hbm, 255, rfl⟩
abbrev main_call0_v246 : Ref sig .tc := ⟨.hbm, 256, rfl⟩
abbrev main_call0_v247 : Ref sig .tc := ⟨.hbm, 257, rfl⟩
abbrev main_call0_v248 : Ref sig .tc := ⟨.hbm, 258, rfl⟩
abbrev main_call0_v249 : Ref sig .tc := ⟨.hbm, 259, rfl⟩
abbrev main_call0_v250 : Ref sig .tc := ⟨.hbm, 260, rfl⟩
abbrev main_call0_v251 : Ref sig .tc := ⟨.hbm, 261, rfl⟩
abbrev main_call0_v252 : Ref sig .tc := ⟨.hbm, 262, rfl⟩
abbrev main_call0_v253 : Ref sig .tc := ⟨.hbm, 263, rfl⟩
abbrev main_call0_v254 : Ref sig .tc := ⟨.hbm, 264, rfl⟩
abbrev main_call0_v255 : Ref sig .tc := ⟨.hbm, 265, rfl⟩
abbrev main_call0_v256 : Ref sig .tc := ⟨.hbm, 266, rfl⟩
abbrev main_call0_v257 : Ref sig .tc := ⟨.hbm, 267, rfl⟩
abbrev main_call0_v258 : Ref sig .tc := ⟨.hbm, 268, rfl⟩
abbrev main_call0_v259 : Ref sig .tc := ⟨.hbm, 269, rfl⟩
abbrev main_call0_v260 : Ref sig .tc := ⟨.hbm, 270, rfl⟩
abbrev main_call0_v261 : Ref sig .tc := ⟨.hbm, 271, rfl⟩
abbrev main_call0_v262 : Ref sig .tc := ⟨.hbm, 272, rfl⟩
abbrev main_call0_v263 : Ref sig .tc := ⟨.hbm, 273, rfl⟩
abbrev main_call0_v264 : Ref sig .tc := ⟨.hbm, 274, rfl⟩
abbrev main_call0_v265 : Ref sig .tc := ⟨.hbm, 275, rfl⟩
abbrev main_call0_v266 : Ref sig .tc := ⟨.hbm, 276, rfl⟩
abbrev main_call0_v267 : Ref sig .tc := ⟨.hbm, 277, rfl⟩
abbrev main_call0_v268 : Ref sig .tc := ⟨.hbm, 278, rfl⟩
abbrev main_call0_v269 : Ref sig .tc := ⟨.hbm, 279, rfl⟩
abbrev main_call0_v270 : Ref sig .tc := ⟨.hbm, 280, rfl⟩
abbrev main_call0_v271 : Ref sig .tc := ⟨.hbm, 281, rfl⟩
abbrev main_call0_v272 : Ref sig .tc := ⟨.hbm, 282, rfl⟩
abbrev main_call0_v273 : Ref sig .tc := ⟨.hbm, 283, rfl⟩
abbrev main_call0_v274 : Ref sig .tc := ⟨.hbm, 284, rfl⟩
abbrev main_call0_v275 : Ref sig .tc := ⟨.hbm, 285, rfl⟩
abbrev main_call0_v276 : Ref sig .tc := ⟨.hbm, 286, rfl⟩
abbrev main_call0_v277 : Ref sig .tc := ⟨.hbm, 287, rfl⟩
abbrev main_call0_v278 : Ref sig .tc := ⟨.hbm, 288, rfl⟩
abbrev main_call0_v279 : Ref sig .tc := ⟨.hbm, 289, rfl⟩
abbrev main_call0_v280 : Ref sig .tc := ⟨.hbm, 290, rfl⟩
abbrev main_call0_v281 : Ref sig .tc := ⟨.hbm, 291, rfl⟩
abbrev main_call0_v282 : Ref sig .tc := ⟨.hbm, 292, rfl⟩
abbrev main_call0_v283 : Ref sig .tc := ⟨.hbm, 293, rfl⟩
abbrev main_call0_v284 : Ref sig .tc := ⟨.hbm, 294, rfl⟩
abbrev main_call0_v285 : Ref sig .tc := ⟨.hbm, 295, rfl⟩
abbrev main_call0_v286 : Ref sig .tc := ⟨.hbm, 296, rfl⟩
abbrev main_call0_v287 : Ref sig .tc := ⟨.hbm, 297, rfl⟩
abbrev main_call0_v288 : Ref sig .tc := ⟨.hbm, 298, rfl⟩
abbrev main_call0_v289 : Ref sig .tc := ⟨.hbm, 299, rfl⟩
abbrev main_call0_v290 : Ref sig .tc := ⟨.hbm, 300, rfl⟩
abbrev main_call0_v291 : Ref sig .tc := ⟨.hbm, 301, rfl⟩
abbrev main_call0_v292 : Ref sig .tc := ⟨.hbm, 302, rfl⟩
abbrev main_call0_v293 : Ref sig .tc := ⟨.hbm, 303, rfl⟩
abbrev main_call0_v294 : Ref sig .tc := ⟨.hbm, 304, rfl⟩
abbrev main_call0_v295 : Ref sig .tc := ⟨.hbm, 305, rfl⟩
abbrev main_call0_v296 : Ref sig .tc := ⟨.hbm, 306, rfl⟩
abbrev main_call0_v297 : Ref sig .tc := ⟨.hbm, 307, rfl⟩
abbrev main_call0_v298 : Ref sig .tc := ⟨.hbm, 308, rfl⟩
abbrev main_call0_v299 : Ref sig .tc := ⟨.hbm, 309, rfl⟩
abbrev main_call0_v300 : Ref sig .tc := ⟨.hbm, 310, rfl⟩
abbrev main_call0_v301 : Ref sig .tc := ⟨.hbm, 311, rfl⟩
abbrev main_call0_v302 : Ref sig .tc := ⟨.hbm, 312, rfl⟩
abbrev main_call0_v303 : Ref sig .tc := ⟨.hbm, 313, rfl⟩
abbrev main_call0_v304 : Ref sig .tc := ⟨.hbm, 314, rfl⟩
abbrev main_call0_v305 : Ref sig .tc := ⟨.hbm, 315, rfl⟩
abbrev main_call0_v306 : Ref sig .tc := ⟨.hbm, 316, rfl⟩
abbrev main_call0_v307 : Ref sig .tc := ⟨.hbm, 317, rfl⟩
abbrev main_call0_v308 : Ref sig .tc := ⟨.hbm, 318, rfl⟩
abbrev main_call0_v309 : Ref sig .tc := ⟨.hbm, 319, rfl⟩
abbrev main_call0_v310 : Ref sig .tc := ⟨.hbm, 320, rfl⟩
abbrev main_call0_v311 : Ref sig .tc := ⟨.hbm, 321, rfl⟩
abbrev main_call0_v312 : Ref sig .tc := ⟨.hbm, 322, rfl⟩
abbrev main_call0_v313 : Ref sig .tc := ⟨.hbm, 323, rfl⟩
abbrev main_call0_v314 : Ref sig .tc := ⟨.hbm, 324, rfl⟩
abbrev main_call0_v315 : Ref sig .tc := ⟨.hbm, 325, rfl⟩
abbrev main_call0_v316 : Ref sig .tc := ⟨.hbm, 326, rfl⟩
abbrev main_call0_v317 : Ref sig .tc := ⟨.hbm, 327, rfl⟩
abbrev main_call0_v318 : Ref sig .tc := ⟨.hbm, 328, rfl⟩
abbrev main_call0_v319 : Ref sig .tc := ⟨.hbm, 329, rfl⟩
abbrev main_call0_v320 : Ref sig .tc := ⟨.hbm, 330, rfl⟩
abbrev main_call0_v321 : Ref sig .tc := ⟨.hbm, 331, rfl⟩
abbrev main_call0_v322 : Ref sig .tc := ⟨.hbm, 332, rfl⟩
abbrev main_call0_v323 : Ref sig .tc := ⟨.hbm, 333, rfl⟩
abbrev main_call0_v324 : Ref sig .tc := ⟨.hbm, 334, rfl⟩
abbrev main_call0_v325 : Ref sig .tc := ⟨.hbm, 335, rfl⟩
abbrev main_call0_v326 : Ref sig .tc := ⟨.hbm, 336, rfl⟩
abbrev main_call0_v327 : Ref sig .tc := ⟨.hbm, 337, rfl⟩
abbrev main_call0_v328 : Ref sig .tc := ⟨.hbm, 338, rfl⟩
abbrev main_call0_v329 : Ref sig .tc := ⟨.hbm, 339, rfl⟩
abbrev main_call0_v330 : Ref sig .tc := ⟨.hbm, 340, rfl⟩
abbrev main_call0_v331 : Ref sig .tc := ⟨.hbm, 341, rfl⟩
abbrev main_call0_v332 : Ref sig .tc := ⟨.hbm, 342, rfl⟩
abbrev main_call0_v333 : Ref sig .tc := ⟨.hbm, 343, rfl⟩
abbrev main_call0_v334 : Ref sig .tc := ⟨.hbm, 344, rfl⟩
abbrev main_call0_v335 : Ref sig .tc := ⟨.hbm, 345, rfl⟩
abbrev main_call0_v336 : Ref sig .tc := ⟨.hbm, 346, rfl⟩
abbrev main_call0_v337 : Ref sig .tc := ⟨.hbm, 347, rfl⟩
abbrev main_call0_v338 : Ref sig .tc := ⟨.hbm, 348, rfl⟩
abbrev main_call0_v339 : Ref sig .tc := ⟨.hbm, 349, rfl⟩
abbrev main_call0_v340 : Ref sig .tc := ⟨.hbm, 350, rfl⟩
abbrev main_call0_v341 : Ref sig .tc := ⟨.hbm, 351, rfl⟩
abbrev main_call0_v342 : Ref sig .tc := ⟨.hbm, 352, rfl⟩
abbrev main_call0_v343 : Ref sig .tc := ⟨.hbm, 353, rfl⟩
abbrev main_call0_v344 : Ref sig .tc := ⟨.hbm, 354, rfl⟩
abbrev main_call0_v345 : Ref sig .tc := ⟨.hbm, 355, rfl⟩
abbrev main_call0_v346 : Ref sig .tc := ⟨.hbm, 356, rfl⟩
abbrev main_call0_v347 : Ref sig .tc := ⟨.hbm, 357, rfl⟩
abbrev main_call0_v348 : Ref sig .tc := ⟨.hbm, 358, rfl⟩
abbrev main_call0_v349 : Ref sig .tc := ⟨.hbm, 359, rfl⟩
abbrev main_call0_v350 : Ref sig .tc := ⟨.hbm, 360, rfl⟩
abbrev main_call0_v351 : Ref sig .tc := ⟨.hbm, 361, rfl⟩
abbrev main_call0_v352 : Ref sig .tc := ⟨.hbm, 362, rfl⟩
abbrev main_call0_v353 : Ref sig .tc := ⟨.hbm, 363, rfl⟩
abbrev main_call0_v354 : Ref sig .tc := ⟨.hbm, 364, rfl⟩
abbrev main_call0_v355 : Ref sig .tc := ⟨.hbm, 365, rfl⟩
abbrev main_call0_v356 : Ref sig .tc := ⟨.hbm, 366, rfl⟩
abbrev main_call0_v357 : Ref sig .tc := ⟨.hbm, 367, rfl⟩
abbrev main_call0_v358 : Ref sig .tc := ⟨.hbm, 368, rfl⟩
abbrev main_call0_v359 : Ref sig .tc := ⟨.hbm, 369, rfl⟩
abbrev main_call0_v360 : Ref sig .tc := ⟨.hbm, 370, rfl⟩
abbrev main_call0_v361 : Ref sig .tc := ⟨.hbm, 371, rfl⟩
abbrev main_call0_v362 : Ref sig .tc := ⟨.hbm, 372, rfl⟩
abbrev main_call0_v363 : Ref sig .tc := ⟨.hbm, 373, rfl⟩
abbrev main_call0_v364 : Ref sig .tc := ⟨.hbm, 374, rfl⟩
abbrev main_call0_v365 : Ref sig .tc := ⟨.hbm, 375, rfl⟩
abbrev main_call0_v366 : Ref sig .tc := ⟨.hbm, 376, rfl⟩
abbrev main_call0_v367 : Ref sig .tc := ⟨.hbm, 377, rfl⟩
abbrev main_call0_v368 : Ref sig .tc := ⟨.hbm, 378, rfl⟩
abbrev main_call0_v369 : Ref sig .tc := ⟨.hbm, 379, rfl⟩
abbrev main_call0_v370 : Ref sig .tc := ⟨.hbm, 380, rfl⟩
abbrev main_call0_v371 : Ref sig .tc := ⟨.hbm, 381, rfl⟩
abbrev main_call0_v372 : Ref sig .tc := ⟨.hbm, 382, rfl⟩
abbrev main_call0_v373 : Ref sig .tc := ⟨.hbm, 383, rfl⟩
abbrev main_call0_v374 : Ref sig .tc := ⟨.hbm, 384, rfl⟩
abbrev main_call0_v375 : Ref sig .tc := ⟨.hbm, 385, rfl⟩
abbrev main_call0_v376 : Ref sig .tc := ⟨.hbm, 386, rfl⟩
abbrev main_call0_v377 : Ref sig .tc := ⟨.hbm, 387, rfl⟩
abbrev main_call0_v378 : Ref sig .tc := ⟨.hbm, 388, rfl⟩
abbrev main_call0_v379 : Ref sig .tc := ⟨.hbm, 389, rfl⟩
abbrev main_call0_v380 : Ref sig .tc := ⟨.hbm, 390, rfl⟩
abbrev main_call0_v381 : Ref sig .tc := ⟨.hbm, 391, rfl⟩
abbrev main_call0_v382 : Ref sig .tc := ⟨.hbm, 392, rfl⟩
abbrev main_call0_v383 : Ref sig .tc := ⟨.hbm, 393, rfl⟩
abbrev main_call0_v384 : Ref sig .tc := ⟨.hbm, 394, rfl⟩
abbrev main_call0_v385 : Ref sig .tc := ⟨.hbm, 395, rfl⟩
abbrev main_call0_v386 : Ref sig .tc := ⟨.hbm, 396, rfl⟩
abbrev main_call0_v387 : Ref sig .tc := ⟨.hbm, 397, rfl⟩
abbrev main_call0_v388 : Ref sig .tc := ⟨.hbm, 398, rfl⟩
abbrev main_call0_v389 : Ref sig .tc := ⟨.hbm, 399, rfl⟩
abbrev main_call0_v390 : Ref sig .tc := ⟨.hbm, 400, rfl⟩
abbrev main_call0_v391 : Ref sig .tc := ⟨.hbm, 401, rfl⟩
abbrev main_call0_v392 : Ref sig .tc := ⟨.hbm, 402, rfl⟩
abbrev main_call0_v393 : Ref sig .tc := ⟨.hbm, 403, rfl⟩
abbrev main_call0_v394 : Ref sig .tc := ⟨.hbm, 404, rfl⟩
abbrev main_call0_v395 : Ref sig .tc := ⟨.hbm, 405, rfl⟩
abbrev main_call0_v396 : Ref sig .tc := ⟨.hbm, 406, rfl⟩
abbrev main_call0_v397 : Ref sig .tc := ⟨.hbm, 407, rfl⟩
abbrev main_call0_v398 : Ref sig .tc := ⟨.hbm, 408, rfl⟩
abbrev main_call0_v399 : Ref sig .tc := ⟨.hbm, 409, rfl⟩
abbrev main_call0_v400 : Ref sig .tc := ⟨.hbm, 410, rfl⟩
abbrev main_call0_v401 : Ref sig .tc := ⟨.hbm, 411, rfl⟩
abbrev main_call0_v402 : Ref sig .tc := ⟨.hbm, 412, rfl⟩
abbrev main_call0_v403 : Ref sig .tc := ⟨.hbm, 413, rfl⟩
abbrev main_call0_v404 : Ref sig .tc := ⟨.hbm, 414, rfl⟩
abbrev main_call0_v405 : Ref sig .tc := ⟨.hbm, 415, rfl⟩
abbrev main_call0_v406 : Ref sig .tc := ⟨.hbm, 416, rfl⟩
abbrev main_call0_v407 : Ref sig .tc := ⟨.hbm, 417, rfl⟩
abbrev main_call0_v408 : Ref sig .tc := ⟨.hbm, 418, rfl⟩
abbrev main_call0_v409 : Ref sig .tc := ⟨.hbm, 419, rfl⟩
abbrev main_call0_v410 : Ref sig .tc := ⟨.hbm, 420, rfl⟩
abbrev main_call0_v411 : Ref sig .tc := ⟨.hbm, 421, rfl⟩
abbrev main_call0_v412 : Ref sig .tc := ⟨.hbm, 422, rfl⟩
abbrev main_call0_v413 : Ref sig .tc := ⟨.hbm, 423, rfl⟩
abbrev main_call0_v414 : Ref sig .tc := ⟨.hbm, 424, rfl⟩
abbrev main_call0_v415 : Ref sig .tc := ⟨.hbm, 425, rfl⟩
abbrev main_call0_v416 : Ref sig .tc := ⟨.hbm, 426, rfl⟩
abbrev main_call0_v417 : Ref sig .tc := ⟨.hbm, 427, rfl⟩
abbrev main_call0_v418 : Ref sig .tc := ⟨.hbm, 428, rfl⟩
abbrev main_call0_v419 : Ref sig .tc := ⟨.hbm, 429, rfl⟩
abbrev main_call0_v420 : Ref sig .tc := ⟨.hbm, 430, rfl⟩
abbrev main_call0_v421 : Ref sig .tc := ⟨.hbm, 431, rfl⟩
abbrev main_call0_v422 : Ref sig .tc := ⟨.hbm, 432, rfl⟩
abbrev main_call0_v423 : Ref sig .tc := ⟨.hbm, 433, rfl⟩
abbrev main_call0_v424 : Ref sig .tc := ⟨.hbm, 434, rfl⟩
abbrev main_call0_v425 : Ref sig .tc := ⟨.hbm, 435, rfl⟩
abbrev main_call0_v426 : Ref sig .tc := ⟨.hbm, 436, rfl⟩
abbrev main_call0_v427 : Ref sig .tc := ⟨.hbm, 437, rfl⟩
abbrev main_call0_v428 : Ref sig .tc := ⟨.hbm, 438, rfl⟩
abbrev main_call0_v429 : Ref sig .tc := ⟨.hbm, 439, rfl⟩
abbrev main_call0_v430 : Ref sig .tc := ⟨.hbm, 440, rfl⟩
abbrev main_call0_v431 : Ref sig .tc := ⟨.hbm, 441, rfl⟩
abbrev main_call0_v432 : Ref sig .tc := ⟨.hbm, 442, rfl⟩
abbrev main_call0_v433 : Ref sig .tc := ⟨.hbm, 443, rfl⟩
abbrev main_call0_v434 : Ref sig .tc := ⟨.hbm, 444, rfl⟩
abbrev main_call0_v435 : Ref sig .tc := ⟨.hbm, 445, rfl⟩
abbrev main_call0_v436 : Ref sig .tc := ⟨.hbm, 446, rfl⟩
abbrev main_call0_v437 : Ref sig .tc := ⟨.hbm, 447, rfl⟩
abbrev main_call0_v438 : Ref sig .tc := ⟨.hbm, 448, rfl⟩
abbrev main_call0_v439 : Ref sig .tc := ⟨.hbm, 449, rfl⟩
abbrev main_call0_v440 : Ref sig .tc := ⟨.hbm, 450, rfl⟩
abbrev main_call0_v441 : Ref sig .tc := ⟨.hbm, 451, rfl⟩
abbrev main_call0_v442 : Ref sig .tc := ⟨.hbm, 452, rfl⟩
abbrev main_call0_v443 : Ref sig .tc := ⟨.hbm, 453, rfl⟩
abbrev main_call0_v444 : Ref sig .tc := ⟨.hbm, 454, rfl⟩
abbrev main_call0_v445 : Ref sig .tc := ⟨.hbm, 455, rfl⟩
abbrev main_call0_v446 : Ref sig .tc := ⟨.hbm, 456, rfl⟩
abbrev main_call0_v447 : Ref sig .tc := ⟨.hbm, 457, rfl⟩
abbrev main_call0_v448 : Ref sig .tc := ⟨.hbm, 458, rfl⟩
abbrev main_call0_v449 : Ref sig .tc := ⟨.hbm, 459, rfl⟩
abbrev main_call0_v450 : Ref sig .tc := ⟨.hbm, 460, rfl⟩
abbrev main_call0_v451 : Ref sig .tc := ⟨.hbm, 461, rfl⟩
abbrev main_call0_v452 : Ref sig .tc := ⟨.hbm, 462, rfl⟩
abbrev main_call0_v453 : Ref sig .tc := ⟨.hbm, 463, rfl⟩
abbrev main_call0_v454 : Ref sig .tc := ⟨.hbm, 464, rfl⟩
abbrev main_call0_v455 : Ref sig .tc := ⟨.hbm, 465, rfl⟩
abbrev main_call0_v456 : Ref sig .tc := ⟨.hbm, 466, rfl⟩
abbrev main_call0_v457 : Ref sig .tc := ⟨.hbm, 467, rfl⟩
abbrev main_call0_v458 : Ref sig .tc := ⟨.hbm, 468, rfl⟩
abbrev main_call0_v459 : Ref sig .tc := ⟨.hbm, 469, rfl⟩
abbrev main_call0_v460 : Ref sig .tc := ⟨.hbm, 470, rfl⟩
abbrev main_call0_v461 : Ref sig .tc := ⟨.hbm, 471, rfl⟩
abbrev main_call0_v462 : Ref sig .tc := ⟨.hbm, 472, rfl⟩
abbrev main_call0_v463 : Ref sig .tc := ⟨.hbm, 473, rfl⟩
abbrev main_call0_v464 : Ref sig .tc := ⟨.hbm, 474, rfl⟩
abbrev main_call0_v465 : Ref sig .tc := ⟨.hbm, 475, rfl⟩
abbrev main_call0_v466 : Ref sig .tc := ⟨.hbm, 476, rfl⟩
abbrev main_call0_v467 : Ref sig .tc := ⟨.hbm, 477, rfl⟩
abbrev main_call0_v468 : Ref sig .tc := ⟨.hbm, 478, rfl⟩
abbrev main_call0_v469 : Ref sig .tc := ⟨.hbm, 479, rfl⟩
abbrev main_call0_v470 : Ref sig .tc := ⟨.hbm, 480, rfl⟩
abbrev main_call0_v471 : Ref sig .tc := ⟨.hbm, 481, rfl⟩
abbrev main_call0_v472 : Ref sig .tc := ⟨.hbm, 482, rfl⟩
abbrev main_call0_v473 : Ref sig .tc := ⟨.hbm, 483, rfl⟩
abbrev main_call0_v474 : Ref sig .tc := ⟨.hbm, 484, rfl⟩
abbrev main_call0_v475 : Ref sig .tc := ⟨.hbm, 485, rfl⟩
abbrev main_call0_v476 : Ref sig .tc := ⟨.hbm, 486, rfl⟩
abbrev main_call0_v477 : Ref sig .tc := ⟨.hbm, 487, rfl⟩
abbrev main_call0_v478 : Ref sig .tc := ⟨.hbm, 488, rfl⟩
abbrev main_call0_v479 : Ref sig .tc := ⟨.hbm, 489, rfl⟩
abbrev main_call0_v480 : Ref sig .tc := ⟨.hbm, 490, rfl⟩
abbrev main_call0_v481 : Ref sig .tc := ⟨.hbm, 491, rfl⟩
abbrev main_call0_v482 : Ref sig .tc := ⟨.hbm, 492, rfl⟩
abbrev main_call0_v483 : Ref sig .tc := ⟨.hbm, 493, rfl⟩
abbrev main_call0_v484 : Ref sig .tc := ⟨.hbm, 494, rfl⟩
abbrev main_call0_v485 : Ref sig .tc := ⟨.hbm, 495, rfl⟩
abbrev main_call0_v486 : Ref sig .tc := ⟨.hbm, 496, rfl⟩
abbrev main_call0_v487 : Ref sig .tc := ⟨.hbm, 497, rfl⟩
abbrev main_call0_v488 : Ref sig .tc := ⟨.hbm, 498, rfl⟩
abbrev main_call0_v489 : Ref sig .tc := ⟨.hbm, 499, rfl⟩
abbrev main_call0_v490 : Ref sig .tc := ⟨.hbm, 500, rfl⟩
abbrev main_call0_v491 : Ref sig .tc := ⟨.hbm, 501, rfl⟩
abbrev main_call0_v492 : Ref sig .tc := ⟨.hbm, 502, rfl⟩
abbrev main_call0_v493 : Ref sig .tc := ⟨.hbm, 503, rfl⟩
abbrev main_call0_v494 : Ref sig .tc := ⟨.hbm, 504, rfl⟩
abbrev main_call0_v495 : Ref sig .tc := ⟨.hbm, 505, rfl⟩
abbrev main_call0_v496 : Ref sig .tc := ⟨.hbm, 506, rfl⟩
abbrev main_call0_v497 : Ref sig .tc := ⟨.hbm, 507, rfl⟩
abbrev main_call0_v498 : Ref sig .tc := ⟨.hbm, 508, rfl⟩
abbrev main_call0_v499 : Ref sig .tc := ⟨.hbm, 509, rfl⟩
abbrev main_call0_v500 : Ref sig .tc := ⟨.hbm, 510, rfl⟩
abbrev main_call0_v501 : Ref sig .tc := ⟨.hbm, 511, rfl⟩
abbrev main_call0_v502 : Ref sig .tc := ⟨.hbm, 512, rfl⟩
abbrev main_call0_v503 : Ref sig .tc := ⟨.hbm, 513, rfl⟩
abbrev main_call0_v504 : Ref sig .tc := ⟨.hbm, 514, rfl⟩
abbrev main_call0_v505 : Ref sig .tc := ⟨.hbm, 515, rfl⟩
abbrev main_call0_v506 : Ref sig .tc := ⟨.hbm, 516, rfl⟩
abbrev main_call0_v507 : Ref sig .tc := ⟨.hbm, 517, rfl⟩
abbrev main_call0_v508 : Ref sig .tc := ⟨.hbm, 518, rfl⟩
abbrev main_call0_v509 : Ref sig .tc := ⟨.hbm, 519, rfl⟩
abbrev main_call0_v510 : Ref sig .tc := ⟨.hbm, 520, rfl⟩
abbrev main_call0_v511 : Ref sig .tc := ⟨.hbm, 521, rfl⟩
abbrev main_call0_v512 : Ref sig .tc := ⟨.hbm, 522, rfl⟩
abbrev main_call0_v513 : Ref sig .tc := ⟨.hbm, 523, rfl⟩
abbrev main_call0_v514 : Ref sig .tc := ⟨.hbm, 524, rfl⟩
abbrev main_call0_v515 : Ref sig .tc := ⟨.hbm, 525, rfl⟩
abbrev main_call0_v516 : Ref sig .tc := ⟨.hbm, 526, rfl⟩
abbrev main_call0_v517 : Ref sig .tc := ⟨.hbm, 527, rfl⟩
abbrev main_call0_v518 : Ref sig .tc := ⟨.hbm, 528, rfl⟩
abbrev main_call0_v519 : Ref sig .tc := ⟨.hbm, 529, rfl⟩
abbrev main_call0_v520 : Ref sig .tc := ⟨.hbm, 530, rfl⟩
abbrev main_call0_v521 : Ref sig .tc := ⟨.hbm, 531, rfl⟩
abbrev main_call0_v522 : Ref sig .tc := ⟨.hbm, 532, rfl⟩
abbrev main_call0_v523 : Ref sig .tc := ⟨.hbm, 533, rfl⟩
abbrev main_call0_v524 : Ref sig .tc := ⟨.hbm, 534, rfl⟩
abbrev main_call0_v525 : Ref sig .tc := ⟨.hbm, 535, rfl⟩
abbrev main_call0_v526 : Ref sig .tc := ⟨.hbm, 536, rfl⟩
abbrev main_call0_v527 : Ref sig .tc := ⟨.hbm, 537, rfl⟩
abbrev main_call0_v528 : Ref sig .tc := ⟨.hbm, 538, rfl⟩
abbrev main_call0_v529 : Ref sig .tc := ⟨.hbm, 539, rfl⟩
abbrev main_call0_v530 : Ref sig .tc := ⟨.hbm, 540, rfl⟩
abbrev main_call0_v531 : Ref sig .tc := ⟨.hbm, 541, rfl⟩
abbrev main_call0_v532 : Ref sig .tc := ⟨.hbm, 542, rfl⟩
abbrev main_call0_v533 : Ref sig .tc := ⟨.hbm, 543, rfl⟩
abbrev main_call0_v534 : Ref sig .tc := ⟨.hbm, 544, rfl⟩
abbrev main_call0_v535 : Ref sig .tc := ⟨.hbm, 545, rfl⟩
abbrev main_call0_v536 : Ref sig .tc := ⟨.hbm, 546, rfl⟩
abbrev main_call0_v537 : Ref sig .tc := ⟨.hbm, 547, rfl⟩
abbrev main_call0_v538 : Ref sig .tc := ⟨.hbm, 548, rfl⟩
abbrev main_call0_v539 : Ref sig .tc := ⟨.hbm, 549, rfl⟩
abbrev main_call0_v540 : Ref sig .tc := ⟨.hbm, 550, rfl⟩
abbrev main_v0_0 : Ref sig .tc := ⟨.hbm, 551, rfl⟩
abbrev main_call0_v542 : Ref sig .tc := ⟨.hbm, 552, rfl⟩
abbrev main_call0_v543 : Ref sig .tc := ⟨.hbm, 553, rfl⟩
abbrev main_call0_v544 : Ref sig .tc := ⟨.hbm, 554, rfl⟩
abbrev main_v0_1 : Ref sig .tc := ⟨.hbm, 555, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x2048x16x16 : Shape := ⟨4, ![64, 2048, 16, 16]⟩
abbrev S256x2048 : Shape := ⟨2, ![256, 2048]⟩
abbrev S256 : Shape := ⟨1, ![256]⟩
abbrev S4x32896 : Shape := ⟨2, ![4, 32896]⟩
abbrev S4 : Shape := ⟨1, ![4]⟩
abbrev S1x32896 : Shape := ⟨2, ![1, 32896]⟩
abbrev S1 : Shape := ⟨1, ![1]⟩
abbrev S32896 : Shape := ⟨1, ![32896]⟩
abbrev S256x64x16x16 : Shape := ⟨4, ![256, 64, 16, 16]⟩
abbrev S64x256x16x16 : Shape := ⟨4, ![64, 256, 16, 16]⟩
abbrev S1x256x1x1 : Shape := ⟨4, ![1, 256, 1, 1]⟩
abbrev S64x256x256 : Shape := ⟨3, ![64, 256, 256]⟩
abbrev S_ : Shape := ⟨0, ![]⟩
abbrev S64x256 : Shape := ⟨2, ![64, 256]⟩
abbrev S64x256x1 : Shape := ⟨3, ![64, 256, 1]⟩
abbrev S256x256 : Shape := ⟨2, ![256, 256]⟩
abbrev S64 : Shape := ⟨1, ![64]⟩
abbrev S64x1x1 : Shape := ⟨3, ![64, 1, 1]⟩
abbrev S1x256x256 : Shape := ⟨3, ![1, 256, 256]⟩
abbrev S64x65536 : Shape := ⟨2, ![64, 65536]⟩
abbrev S32896x1 : Shape := ⟨2, ![32896, 1]⟩
abbrev S64x32896 : Shape := ⟨2, ![64, 32896]⟩
abbrev S32896x4 : Shape := ⟨2, ![32896, 4]⟩
abbrev S64x4 : Shape := ⟨2, ![64, 4]⟩
abbrev S1x4 : Shape := ⟨2, ![1, 4]⟩
abbrev S64x1 : Shape := ⟨2, ![64, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S64x2048x16x16, .f32⟩
  | .hbm, ⟨1, _⟩ => ⟨S256x2048, .f32⟩
  | .hbm, ⟨2, _⟩ => ⟨S256, .f32⟩
  | .hbm, ⟨3, _⟩ => ⟨S4x32896, .f32⟩
  | .hbm, ⟨4, _⟩ => ⟨S4, .f32⟩
  | .hbm, ⟨5, _⟩ => ⟨S1x32896, .f32⟩
  | .hbm, ⟨6, _⟩ => ⟨S1, .f32⟩
  | .hbm, ⟨7, _⟩ => ⟨S32896, .i32⟩
  | .hbm, ⟨8, _⟩ => ⟨S256x64x16x16, .f32⟩
  | .hbm, ⟨9, _⟩ => ⟨S64x256x16x16, .f32⟩
  | .hbm, ⟨10, _⟩ => ⟨S1x256x1x1, .f32⟩
  | .hbm, ⟨11, _⟩ => ⟨S64x256x16x16, .f32⟩
  | .hbm, ⟨12, _⟩ => ⟨S64x256x16x16, .f32⟩
  | .hbm, ⟨13, _⟩ => ⟨S64x256x256, .f32⟩
  | .hbm, ⟨14, _⟩ => ⟨S_, .f32⟩
  | .hbm, ⟨15, _⟩ => ⟨S64x256, .f32⟩
  | .hbm, ⟨16, _⟩ => ⟨S64x256x1, .f32⟩
  | .hbm, ⟨17, _⟩ => ⟨S_, .f32⟩
  | .hbm, ⟨18, _⟩ => ⟨S64x256x1, .f32⟩
  | .hbm, ⟨19, _⟩ => ⟨S64x256x1, .f32⟩
  | .hbm, ⟨20, _⟩ => ⟨S64x256x256, .f32⟩
  | .hbm, ⟨21, _⟩ => ⟨S64x256x256, .f32⟩
  | .hbm, ⟨22, _⟩ => ⟨S64x256x256, .f32⟩
  | .hbm, ⟨23, _⟩ => ⟨S_, .f32⟩
  | .hbm, ⟨24, _⟩ => ⟨S64x256x256, .f32⟩
  | .hbm, ⟨25, _⟩ => ⟨S64x256x256, .f32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .i32⟩
  | .hbm, ⟨37, _⟩ => ⟨S256x256, .i32⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S_, .f32⟩
  | .hbm, ⟨43, _⟩ => ⟨S64x256x256, .f32⟩
  | .hbm, ⟨44, _⟩ => ⟨S64x256x256, .i1⟩
  | .hbm, ⟨45, _⟩ => ⟨S64x256x256, .f32⟩
  | .hbm, ⟨46, _⟩ => ⟨S_, .f32⟩
  | .hbm, ⟨47, _⟩ => ⟨S64, .f32⟩
  | .hbm, ⟨48, _⟩ => ⟨S64x1x1, .f32⟩
  | .hbm, ⟨49, _⟩ => ⟨S64x256x256, .f32⟩
  | .hbm, ⟨50, _⟩ => ⟨S64x256x256, .f32⟩
  | .hbm, ⟨51, _⟩ => ⟨S1x256x256, .f32⟩
  | .hbm, ⟨52, _⟩ => ⟨S64x256x256, .f32⟩
  | .hbm, ⟨53, _⟩ => ⟨S64x256x256, .f32⟩
  | .hbm, ⟨54, _⟩ => ⟨S_, .f32⟩
  | .hbm, ⟨55, _⟩ => ⟨S64x256x256, .f32⟩
  | .hbm, ⟨56, _⟩ => ⟨S64x256x256, .f32⟩
  | .hbm, ⟨57, _⟩ => ⟨S64x256x256, .f32⟩
  | .hbm, ⟨58, _⟩ => ⟨S64x256x256, .f32⟩
  | .hbm, ⟨59, _⟩ => ⟨S1x256x256, .f32⟩
  | .hbm, ⟨60, _⟩ => ⟨S64x256x256, .f32⟩
  | .hbm, ⟨61, _⟩ => ⟨S64x256x256, .f32⟩
  | .hbm, ⟨62, _⟩ => ⟨S_, .f32⟩
  | .hbm, ⟨63, _⟩ => ⟨S64x256x256, .f32⟩
  | .hbm, ⟨64, _⟩ => ⟨S64x256x256, .f32⟩
  | .hbm, ⟨65, _⟩ => ⟨S64x256x256, .f32⟩
  | .hbm, ⟨66, _⟩ => ⟨S64x256x256, .f32⟩
  | .hbm, ⟨67, _⟩ => ⟨S64x256x256, .f32⟩
  | .hbm, ⟨68, _⟩ => ⟨S1x256x256, .f32⟩
  | .hbm, ⟨69, _⟩ => ⟨S64x256x256, .f32⟩
  | .hbm, ⟨70, _⟩ => ⟨S64x256x256, .f32⟩
  | .hbm, ⟨71, _⟩ => ⟨S_, .f32⟩
  | .hbm, ⟨72, _⟩ => ⟨S64x256x256, .f32⟩
  | .hbm, ⟨73, _⟩ => ⟨S64x256x256, .f32⟩
  | .hbm, ⟨74, _⟩ => ⟨S64x256x256, .f32⟩
  | .hbm, ⟨75, _⟩ => ⟨S64x256x256, .f32⟩
  | .hbm, ⟨76, _⟩ => ⟨S64x256x256, .f32⟩
  | .hbm, ⟨77, _⟩ => ⟨S1x256x256, .f32⟩
  | .hbm, ⟨78, _⟩ => ⟨S64x256x256, .f32⟩
  | .hbm, ⟨79, _⟩ => ⟨S64x256x256, .f32⟩
  | .hbm, ⟨80, _⟩ => ⟨S_, .f32⟩
  | .hbm, ⟨81, _⟩ => ⟨S64x256x256, .f32⟩
  | .hbm, ⟨82, _⟩ => ⟨S64x256x256, .f32⟩
  | .hbm, ⟨83, _⟩ => ⟨S64x256x256, .f32⟩
  | .hbm, ⟨84, _⟩ => ⟨S64x256x256, .f32⟩
  | .hbm, ⟨85, _⟩ => ⟨S64x256x256, .f32⟩
  | .hbm, ⟨86, _⟩ => ⟨S1x256x256, .f32⟩
  | .hbm, ⟨87, _⟩ => ⟨S64x256x256, .f32⟩
  | .hbm, ⟨88, _⟩ => ⟨S64x256x256, .f32⟩
  | .hbm, ⟨89, _⟩ => ⟨S64x256x256, .f32⟩
  | .hbm, ⟨90, _⟩ => ⟨S_, .f32⟩
  | .hbm, ⟨91, _⟩ => ⟨S64x256x256, .f32⟩
  | .hbm, ⟨92, _⟩ => ⟨S64x256x256, .f32⟩
  | .hbm, ⟨93, _⟩ => ⟨S64, .f32⟩
  | .hbm, ⟨94, _⟩ => ⟨S64x1x1, .f32⟩
  | .hbm, ⟨95, _⟩ => ⟨S64x256x256, .f32⟩
  | .hbm, ⟨96, _⟩ => ⟨S64x256x256, .f32⟩
  | .hbm, ⟨97, _⟩ => ⟨S64x65536, .f32⟩
  | .hbm, ⟨98, _⟩ => ⟨S_, .i32⟩
  | .hbm, ⟨99, _⟩ => ⟨S32896, .i32⟩
  | .hbm, ⟨100, _⟩ => ⟨S32896, .i1⟩
  | .hbm, ⟨101, _⟩ => ⟨S_, .i32⟩
  | .hbm, ⟨102, _⟩ => ⟨S32896, .i32⟩
  | .hbm, ⟨103, _⟩ => ⟨S32896, .i32⟩
  | .hbm, ⟨104, _⟩ => ⟨S32896, .i32⟩
  | .hbm, ⟨105, _⟩ => ⟨S32896x1, .i32⟩
  | .hbm, ⟨106, _⟩ => ⟨S64x32896, .f32⟩
  | .hbm, ⟨107, _⟩ => ⟨S32896x4, .f32⟩
  | .hbm, ⟨108, _⟩ => ⟨S64x4, .f32⟩
  | .hbm, ⟨109, _⟩ => ⟨S1x4, .f32⟩
  | .hbm, ⟨110, _⟩ => ⟨S64x4, .f32⟩
  | .hbm, ⟨111, _⟩ => ⟨S64x4, .f32⟩
  | .hbm, ⟨112, _⟩ => ⟨S32896x1, .f32⟩
  | .hbm, ⟨113, _⟩ => ⟨S64x1, .f32⟩
  | .hbm, ⟨114, _⟩ => ⟨S1x1, .f32⟩
  | .hbm, ⟨115, _⟩ => ⟨S64x1, .f32⟩
  | .hbm, ⟨116, _⟩ => ⟨S64x1, .f32⟩
  | _, _ => ⟨S64x2048x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_c : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_cst : Ref sig .tc := ⟨.hbm, 42, rfl⟩
abbrev main_call0_v5 : Ref sig .tc := ⟨.hbm, 43, rfl⟩
abbrev main_call0_call0_v0 : Ref sig .tc := ⟨.hbm, 44, rfl⟩
abbrev main_call0_v6 : Ref sig .tc := ⟨.hbm, 45, rfl⟩
abbrev main_call0_cst_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_8 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_9 : Ref sig .tc := ⟨.hbm, 98, rfl⟩
abbrev main_v69 : Ref sig .tc := ⟨.hbm, 99, rfl⟩
abbrev main_v70 : Ref sig .tc := ⟨.hbm, 100, rfl⟩
abbrev main_c_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Proof.Finite.lean ====
/- What the precondition says: every bias is a finite number. -/
module

public import proofs.«01_k».proof.Pre_finite_bias
public import Idealize.ShloMosaic.Lib.Pointwise

@[expose] public section

noncomputable section

namespace Cert.Finite

open Cert.Pre_finite_bias Idealize.ShloMosaic

/-- The predicate's one side condition: a number can be spread over the 256 biases. -/
theorem facts : Cert.Pre_finite_bias.Facts := ⟨by decide⟩

/-- The predicate's bound is plus infinity. -/
theorem bound_eq : Ideal.ofBits .f32 0x7F800000#32 = (⊤ : EReal) := by
  simp [Ideal.ofBits, Ideal.ieee]

/-- An extended real whose absolute value is below plus infinity is a real number. -/
theorem real_of_abs (x : EReal) (h : max x (-x) < ⊤) : ∃ r : ℝ, x = r := by
  induction x with
  | bot => simp at h
  | top => simp at h
  | coe r => exact ⟨r, rfl⟩

/-- Where the predicate holds, every bias is a real number. -/
theorem bias_real [Cert.Pre_finite_bias.Facts] (x0 : FVec Ideal S64x2048x16x16 .f32) (x1 : FVec Ideal S256x2048 .f32)
    (x2 : FVec Ideal S256 .f32) (x3 : FVec Ideal S4x32896 .f32) (x4 : FVec Ideal S4 .f32) (x5 : FVec Ideal S1x32896 .f32)
    (x6 : FVec Ideal S1 .f32) (h : Cert.Pre_finite_bias.fn (F := Ideal) x0 x1 x2 x3 x4 x5 x6 = fun _ => 1#1)
    (i : Fin 256) : ∃ r : ℝ, x2 (ix1 i) = r := by
  have hi : Ideal.cmp .olt (max (x2 (ix1 i) : EReal) (-(x2 (ix1 i) : EReal))) (Ideal.ofBits .f32 0x7F800000#32) = 1#1 :=
    congrFun h (ix1 i)
  rw [bound_eq] at hi
  refine real_of_abs _ ?_
  by_contra hn
  unfold Ideal.cmp at hi
  rw [decide_eq_false hn] at hi
  exact absurd hi (show ¬ BitVec.ofBool false = 1#1 by decide)

end Cert.Finite

end
-- ==== Proof.Image.lean ====
/- What one image's share of the kernel's body computes, written once: the body is unrolled over the eight images of a
   block, and each of its eight stored rows is this function of the weights, that image and the five head tables. -/
module

public import proofs.«01_k».proof.Proof.Gen.KernelIdeal.Frame

@[expose] public section

set_option maxRecDepth 16384

noncomputable section

namespace Cert.KernelIdeal.Image

open Cert.KernelIdeal Cert.KernelIdeal.Gen Idealize.ShloMosaic

variable {F : FTy → Type} [FloatOps F]

/-- The product of two 256 by 256 matrices on the matrix unit, from a zero accumulator. -/
def mm (a b : FVec F S256x256 .f32) : FVec F S256x256 .f32 :=
  matmul dot_S256x256_S256x256_S256x256_1_0_0_1_n_n none a b (constant S256x256 .f32 0x00000000#32)

/-- One half of three times the identity less a matrix. -/
def hlf (a : FVec F S256x256 .f32) : FVec F S256x256 .f32 :=
  mulf (broadcast S256x256 (Scalar.ofBits .f32 0x3F000000#32)) (subf k0_pay3 a)

/-- The covariance of an image's 256 reduced channels over its 256 pixels. -/
def covar (w : Vec F S256x2048 .f32) (f : Vec F S1x2048x256 .f32) : FVec F S256x256 .f32 :=
  k0_pay19 (k0_pay12 (k0_pay4 w f))

/-- One Newton–Schulz step on the pair of iterates. -/
def stepY (y z : FVec F S256x256 .f32) : FVec F S256x256 .f32 := mm y (hlf (mm z y))
/-- The second iterate of one Newton–Schulz step. -/
def stepZ (y z : FVec F S256x256 .f32) : FVec F S256x256 .f32 := mm (hlf (mm z y)) z

/-- The last half step of the iteration, without the final scaling. -/
def finish (y z : FVec F S256x256 .f32) : FVec F S256x256 .f32 :=
  mulf (broadcast S256x256 (Scalar.ofBits .f32 0x3F000000#32)) (mm y (subf k0_pay3 (mm z y)))

/-- The iteration from a normalized matrix: three steps and the last half step. -/
def newton (a : FVec F S256x256 .f32) : FVec F S256x256 .f32 :=
  finish (stepY (stepY (stepY (mm a (hlf a)) (hlf a)) (stepZ (mm a (hlf a)) (hlf a)))
      (stepZ (stepY (mm a (hlf a)) (hlf a)) (stepZ (mm a (hlf a)) (hlf a))))
    (stepZ (stepY (stepY (mm a (hlf a)) (hlf a)) (stepZ (mm a (hlf a)) (hlf a)))
      (stepZ (stepY (mm a (hlf a)) (hlf a)) (stepZ (mm a (hlf a)) (hlf a))))

/-- The approximate square root of a covariance matrix. -/
def root (A : FVec F S256x256 .f32) : FVec F S256x256 .f32 :=
  k0_pay142 (k0_pay27 k0_pay2 A) (newton (k0_pay36 A (k0_pay27 k0_pay2 A)))

/-- The stored row: the five head sums in lanes 0 to 4, zero elsewhere. -/
def row (s : FVec F S256x256 .f32) (w0 w1 w2 w3 w4 : Vec F S1x256x256 .f32) : FVec F S1x1x128 .f32 :=
  k0_pay195 (iota .tc S1x128 32 [1] iota_S1x128_d1_w32) (k0_pay151 s w0) (k0_pay151 s w1) (k0_pay151 s w2)
    (k0_pay151 s w3) (k0_pay151 s w4)

/-- The row one image's share of the body stores. -/
def imageRow (w : Vec F S256x2048 .f32) (x2 : Vec F S5x256x256 .f32) (f : Vec F S1x2048x256 .f32) :
    FVec F S1x1x128 .f32 :=
  row (root (covar w f)) (View.ld x2 r0_9) (View.ld x2 r0_10) (View.ld x2 r0_11) (View.ld x2 r0_12)
    (View.ld x2 r0_13)

/-- The body's output block holds, in row `b`, the row of image `b`. -/
theorem out_eq (x0 : Vec F S8x2048x256 .f32) (x1 : Vec F S256x2048 .f32) (x2 : Vec F S5x256x256 .f32) :
    out0_3 x0 x1 x2 = View.canon
      [⟨r0_21, imageRow (View.ld x1 r0_0) x2 (View.ld x0 r0_8)⟩,
        ⟨r0_20, imageRow (View.ld x1 r0_0) x2 (View.ld x0 r0_7)⟩,
        ⟨r0_19, imageRow (View.ld x1 r0_0) x2 (View.ld x0 r0_6)⟩,
        ⟨r0_18, imageRow (View.ld x1 r0_0) x2 (View.ld x0 r0_5)⟩,
        ⟨r0_17, imageRow (View.ld x1 r0_0) x2 (View.ld x0 r0_4)⟩,
        ⟨r0_16, imageRow (View.ld x1 r0_0) x2 (View.ld x0 r0_3)⟩,
        ⟨r0_15, imageRow (View.ld x1 r0_0) x2 (View.ld x0 r0_2)⟩,
        ⟨r0_14, imageRow (View.ld x1 r0_0) x2 (View.ld x0 r0_1)⟩] := rfl

end Cert.KernelIdeal.Image

end
-- ==== Proof.Spec.lean ====
/- The mathematics both programs compute: the covariance of one image's reduced channels, its approximate square root by the
   Newton–Schulz iteration, and the sum of the root's entries against a table of weights. -/
module

public import Idealize.ShloMosaic.PureOps.Ideal
public import Idealize.ShloMosaic.Lib.Pointwise

@[expose] public section

noncomputable section

namespace Cert.Cov

open Idealize.ShloMosaic

/-- A 256 by 256 matrix of extended reals. -/
abbrev Mat := Fin 256 → Fin 256 → EReal

/-- The float 256. -/
def c256 : EReal := Ideal.ofBits .f32 1132462080#32
/-- The float 1/256. -/
def cInv : EReal := Ideal.ofBits .f32 998244352#32
/-- The float 3. -/
def three : EReal := Ideal.ofBits .f32 1077936128#32
/-- The float 1/2. -/
def half : EReal := Ideal.ofBits .f32 1056964608#32

/-- The identity matrix. -/
def eye : Mat := fun i j => if i = j then 1 else 0
/-- The product of two matrices. -/
def mul (A B : Mat) : Mat := fun i j => ∑ x, A i x * B x j
/-- Three times the identity less a matrix. -/
def lack (A : Mat) : Mat := fun i j => three * eye i j - A i j
/-- Half of that. -/
def nhalf (A : Mat) : Mat := fun i j => half * lack A i j
/-- A row less its mean. -/
def centre (X : Mat) : Mat := fun i x => X i x - Ideal.div (∑ y, X i y) c256
/-- The covariance of the rows. -/
def cov (X : Mat) : Mat := fun i j => (∑ x, centre X i x * centre X j x) * cInv
/-- The trace. -/
def tr (A : Mat) : EReal := ∑ x, A x x

/-- The first iterate after one step. -/
def stepY (Y Z : Mat) : Mat := mul Y (nhalf (mul Z Y))
/-- The second iterate after one step. -/
def stepZ (Y Z : Mat) : Mat := mul (nhalf (mul Z Y)) Z
/-- The last half step. -/
def finish (Y Z : Mat) : Mat := fun i j => half * mul Y (lack (mul Z Y)) i j

/-- The iteration from a normalized matrix. -/
def newton (A : Mat) : Mat :=
  finish (stepY (stepY (stepY (mul A (nhalf A)) (nhalf A)) (stepZ (mul A (nhalf A)) (nhalf A)))
      (stepZ (stepY (mul A (nhalf A)) (nhalf A)) (stepZ (mul A (nhalf A)) (nhalf A))))
    (stepZ (stepY (stepY (mul A (nhalf A)) (nhalf A)) (stepZ (mul A (nhalf A)) (nhalf A)))
      (stepZ (stepY (mul A (nhalf A)) (nhalf A)) (stepZ (mul A (nhalf A)) (nhalf A))))

/-- The approximate square root: normalize by the trace, iterate, scale back. -/
def root (A : Mat) : Mat := fun i j => newton (fun i j => A i j * Ideal.div 1 (tr A)) i j * Ideal.sqrt (tr A)

/-- The sum of a matrix's entries, each times its weight. -/
def head (S W : Mat) : EReal := ∑ x, ∑ y, S x y * W x y

/-! ## The same, as the reference writes it -/

/-- The square root with each entry divided by the trace. -/
def rootDiv (A : Mat) : Mat := fun i j => newton (fun i j => Ideal.div (A i j) (tr A)) i j * Ideal.sqrt (tr A)

/-- Dividing by the trace, or multiplying by its reciprocal, gives one root: at trace zero the final scale is zero. -/
theorem rootDiv_eq (A : Mat) : rootDiv A = root A := by
  funext i j
  unfold rootDiv root
  by_cases h : tr A = 0
  · rw [h]
    have hs : Ideal.sqrt ((0 : ℝ) : EReal) = 0 := by
      show (if (0 : ℝ) < 0 then (⊥ : EReal) else ((Real.sqrt 0 : ℝ) : EReal)) = 0
      rw [if_neg (lt_irrefl _), Real.sqrt_zero, EReal.coe_zero]
    rw [EReal.coe_zero] at hs
    rw [hs, mul_zero, mul_zero]
  · have e : (fun i j => Ideal.div (A i j) (tr A)) = fun i j => A i j * Ideal.div 1 (tr A) := by
      funext i j
      simp only [Ideal.div, if_neg h, one_mul]
    rw [e]

/-- The float 256 is the real 256. -/
theorem c256_eq : c256 = ((256 : ℝ) : EReal) := by
  unfold c256
  simp [Ideal.ofBits, Ideal.ieee]
  rw [← EReal.coe_mul]
  norm_num

/-- The float 1/256 is the reciprocal of 256. -/
theorem cInv_eq : cInv = ((256 : ℝ) : EReal)⁻¹ := by
  unfold cInv
  simp [Ideal.ofBits, Ideal.ieee]
  rw [← EReal.coe_mul, ← EReal.coe_inv]
  norm_num

/-- Dividing by the float 256 is multiplying by the float 1/256. -/
theorem div_c256 (x : EReal) : Ideal.div x c256 = x * cInv := by
  have h : ((256 : ℝ) : EReal) ≠ 0 := by exact_mod_cast (by norm_num : (256 : ℝ) ≠ 0)
  rw [c256_eq, cInv_eq, Ideal.div, if_neg h]

/-- Adding one real number to all of a row leaves the row less its mean as it was. -/
theorem centre_add (X : Mat) (b : Fin 256 → EReal) (hb : ∀ i, ∃ r : ℝ, b i = r) :
    centre (fun i x => X i x + b i) = centre X := by
  funext i x
  obtain ⟨r, hr⟩ := hb i
  unfold centre
  dsimp only
  rw [hr, Finset.sum_add_distrib, div_c256, div_c256]
  have hs : (∑ _y : Fin 256, (r : EReal)) = ((256 * r : ℝ) : EReal) := by
    rw [Finset.sum_const, Finset.card_univ, Fintype.card_fin]
    rw [← EReal.coe_nsmul, nsmul_eq_mul]
    norm_num
  have hc : cInv = (((256 : ℝ)⁻¹ : ℝ) : EReal) := by rw [cInv_eq, EReal.coe_inv]
  rw [hs, hc]
  generalize (∑ y, X i y) = S
  generalize X i x = a
  have hp : (0 : ℝ) < (256 : ℝ)⁻¹ := by norm_num
  induction S using EReal.rec with
  | bot =>
    rw [EReal.bot_add, EReal.bot_mul_coe_of_pos hp]
    induction a using EReal.rec <;> simp [← EReal.coe_add]
  | top =>
    rw [EReal.top_add_coe, EReal.top_mul_coe_of_pos hp]
    induction a using EReal.rec <;> simp [← EReal.coe_add]
  | coe s =>
    rw [← EReal.coe_add, ← EReal.coe_mul, ← EReal.coe_mul]
    induction a using EReal.rec with
    | bot => simp
    | top =>
      rw [EReal.top_add_coe, EReal.top_sub_coe, EReal.top_sub_coe]
    | coe t =>
      rw [← EReal.coe_add, ← EReal.coe_sub, ← EReal.coe_sub]
      congr 1
      ring

end Cert.Cov

end
-- ==== Proof.ImageVal.lean ====
/- The row one image's share of the body stores, as the mathematics of its channels. -/
module

public import proofs.«01_k».proof.Proof.Image
public import proofs.«01_k».proof.Proof.Spec
public import Idealize.ShloMosaic.Lib.Pointwise

@[expose] public section

set_option maxRecDepth 16384

noncomputable section

namespace Cert.KernelIdeal.Image

open Cert.KernelIdeal Cert.KernelIdeal.Gen Cert.Cov Idealize.ShloMosaic

/-- The kernel's identity matrix: one where the row and column numbers agree. -/
theorem eyeWord (i j : Fin 256) :
    FloatOps.sitofp (F := Ideal) .f32
      (BitVec.setWidth 32 (IntOp.cmpi .eq (BitVec.ofNat 32 i.val) (BitVec.ofNat 32 j.val))) = eye i j := by
  unfold eye
  have hi := i.isLt
  have hj := j.isLt
  by_cases h : i = j
  · subst h
    simp [IntOp.cmpi, FloatOps.sitofp]
  · have h' : BitVec.ofNat 32 i.val ≠ BitVec.ofNat 32 j.val := fun e => h (Fin.ext (by
      have := congrArg BitVec.toNat e
      simp only [BitVec.toNat_ofNat] at this
      omega))
    have hb : (BitVec.ofNat 32 i.val == BitVec.ofNat 32 j.val) = false := beq_eq_false_iff_ne.mpr h'
    simp [IntOp.cmpi, FloatOps.sitofp, h, hb]

/-- A 256 by 256 vector as a matrix. -/
def mat (a : FVec Ideal S256x256 .f32) : Mat := fun i j => a (ix2 i j)

/-- The matrix unit's product is the product of matrices. -/
theorem mm_mat (a b : FVec Ideal S256x256 .f32) : mat (mm a b) = mul (mat a) (mat b) := by
  funext i j
  pointwise [mat, mm, mul]

/-- Three times the identity less a matrix. -/
theorem lack_mat (a : FVec Ideal S256x256 .f32) : mat (subf k0_pay3 a) = lack (mat a) := by
  funext i j
  unfold lack
  rw [← eyeWord]
  pointwise [mat, k0_pay3, k0_pay2, three]

/-- Half of that. -/
theorem hlf_mat (a : FVec Ideal S256x256 .f32) : mat (hlf a) = nhalf (mat a) := by
  unfold nhalf
  rw [← lack_mat]
  funext i j
  pointwise [mat, hlf, half]

/-- The last half step. -/
theorem finish_mat (y z : FVec Ideal S256x256 .f32) : mat (Image.finish y z) = Cov.finish (mat y) (mat z) := by
  unfold Cov.finish
  rw [← mm_mat, ← lack_mat, ← mm_mat]
  funext i j
  unfold Image.finish
  generalize mm y (subf k0_pay3 (mm z y)) = q
  pointwise [mat, half]

/-- The whole iteration. -/
theorem newton_mat (a : FVec Ideal S256x256 .f32) : mat (Image.newton a) = Cov.newton (mat a) := by
  unfold Image.newton Cov.newton
  rw [finish_mat]
  simp only [Image.stepY, Image.stepZ, Cov.stepY, Cov.stepZ, mm_mat, hlf_mat]

/-- The trace. -/
theorem trace_mat (a : FVec Ideal S256x256 .f32) : k0_pay27 k0_pay2 a (ix2 0 0) = tr (mat a) := by
  have h : k0_pay27 k0_pay2 a (ix2 0 0) = ∑ x, ∑ y, a (ix2 x y) * eye x y := by
    simp only [← eyeWord]
    pointwise [k0_pay27, k0_pay2]
  rw [h]
  unfold tr mat
  refine Finset.sum_congr rfl fun x _ => ?_
  rw [Finset.sum_eq_single x]
  · unfold eye; rw [if_pos rfl, mul_one]
  · intro y _ hy
    unfold eye; rw [if_neg (fun e => hy e.symm), mul_zero]
  · intro h; exact absurd (Finset.mem_univ _) h

/-- The approximate square root. -/
theorem root_mat (a : FVec Ideal S256x256 .f32) : mat (Image.root a) = Cov.root (mat a) := by
  have hn : (fun i j => mat a i j * Ideal.div 1 (tr (mat a))) = mat (k0_pay36 a (k0_pay27 k0_pay2 a)) := by
    rw [← trace_mat]
    generalize k0_pay27 k0_pay2 a = t
    funext i j
    pointwise [mat, k0_pay36]
  unfold Cov.root
  rw [hn, ← newton_mat, ← trace_mat]
  funext i j
  unfold Image.root
  generalize k0_pay27 k0_pay2 a = t
  generalize Image.newton (F := Ideal) _ = n
  pointwise [mat, k0_pay142]

/-- The reduced channels of one image. -/
def chan (w : Vec Ideal S256x2048 .f32) (f : Vec Ideal S1x2048x256 .f32) : Mat :=
  fun i p => ∑ c : Fin 2048, w (ix2 i c) * f (ix3 0 c p)

/-- The covariance. -/
theorem covar_mat (w : Vec Ideal S256x2048 .f32) (f : Vec Ideal S1x2048x256 .f32) :
    mat (covar w f) = cov (chan w f) := by
  funext i j
  pointwise [mat, covar, k0_pay19, k0_pay12, k0_pay4, cov, centre, chan, c256, cInv]

/-- One head's sum. -/
theorem head_mat (s : FVec Ideal S256x256 .f32) (t : Vec Ideal S1x256x256 .f32) :
    k0_pay151 s t = head (mat s) (fun i j => t (ix3 0 i j)) := by
  pointwise [k0_pay151, head, mat]

/-- The stored row holds the five numbers it is made of in its first five lanes. -/
theorem lanes_apply (u0 u1 u2 u3 u4 : Ideal .f32) (k : Fin 5) :
    k0_pay195 (iota .tc S1x128 32 [1] iota_S1x128_d1_w32) u0 u1 u2 u3 u4 (ix3 0 0 ⟨k.val, by omega⟩)
      = ![u0, u1, u2, u3, u4] k := by
  fin_cases k
  all_goals pointwise [k0_pay195]
  all_goals rfl

/-- The stored row's lane `k`, for a head `k`, is that head's sum over the image's square root. -/
theorem imageRow_apply (w : Vec Ideal S256x2048 .f32) (x2 : Vec Ideal S5x256x256 .f32) (f : Vec Ideal S1x2048x256 .f32)
    (k : Fin 5) :
    imageRow w x2 f (ix3 0 0 ⟨k.val, by omega⟩)
      = head (Cov.root (cov (chan w f))) (fun i j => x2 (ix3 k i j)) := by
  rw [← covar_mat, ← root_mat]
  unfold imageRow row
  generalize Image.root (F := Ideal) _ = s
  rw [lanes_apply]
  simp only [head_mat]
  fin_cases k
  all_goals pointwise [head]

end Cert.KernelIdeal.Image

end
-- ==== Proof.Block.lean ====
/- One block of the region's output, entry by entry, off the blocks the body is given. -/
module

public import proofs.«01_k».proof.Proof.ImageVal
public import Idealize.ShloMosaic.Lib.Pipeline.Value

@[expose] public section

set_option maxRecDepth 16384

noncomputable section

namespace Cert.KernelIdeal.Image

open Cert.KernelIdeal Cert.KernelIdeal.Gen Idealize.ShloMosaic Idealize.ShloMosaic.TcCoe

/-- The features of image `a` out of a stack of `n` images. -/
def image {n : Nat} (f : (⟨3, ![n, 2048, 256]⟩ : Shape).Idx → EReal) (a : Fin n) : Vec Ideal S1x2048x256 .f32 :=
  fun z => f (ix3 a (z 1) (z 2))

/-- The rows of a stack of `n` images. -/
def rows {n : Nat} (f : (⟨3, ![n, 2048, 256]⟩ : Shape).Idx → EReal) (w : Vec Ideal S256x2048 .f32)
    (x2 : Vec Ideal S5x256x256 .f32) (y : (⟨3, ![n, 1, 128]⟩ : Shape).Idx) : EReal :=
  imageRow w x2 (image f (y 0)) (ix3 0 0 (y 2))

/-- The weights are loaded whole. -/
theorem ld_whole (x1 : Vec Ideal S256x2048 .f32) : View.ld x1 r0_0 = x1 := by
  funext y
  refine congrArg x1 (funext fun a => Fin.ext ?_)
  fin_cases a
  all_goals simp [Rect.emb_apply]

/-- A load of one of the eight images is that image. -/
theorem ld_image (x0 : Vec Ideal S8x2048x256 .f32) (a : Fin 8) (h) :
    View.ld x0 (Rect.unit (s := S8x2048x256) ![a.val, 0, 0] S1x2048x256.size h) = image x0 a := by
  funext y
  refine congrArg x0 (funext fun b => Fin.ext ?_)
  have h0 : (y 0).val = 0 := by have := (y 0).isLt; exact Nat.lt_one_iff.mp this
  fin_cases b
  all_goals simp [Rect.emb_apply]
  exact h0

/-- A stored row is the block's row of that image. -/
theorem piece_row (f : Vec Ideal S8x2048x256 .f32) (w : Vec Ideal S256x2048 .f32) (x2 : Vec Ideal S5x256x256 .f32)
    (a : Fin 8) (h) (h') (x : S1x1x128.Idx) :
    imageRow (View.ld w r0_0) x2 (View.ld f (Rect.unit (s := S8x2048x256) ![a.val, 0, 0] S1x2048x256.size h)) x
      = rows (n := 8) f w x2 ((Rect.unit (s := S8x1x128) ![a.val, 0, 0] S1x1x128.size h').emb x) := by
  have h0 : (x 0).val = 0 := by have := (x 0).isLt; exact Nat.lt_one_iff.mp this
  have h1 : (x 1).val = 0 := by have := (x 1).isLt; exact Nat.lt_one_iff.mp this
  rw [ld_whole, ld_image]
  unfold rows
  have e0 : ((Rect.unit (s := S8x1x128) ![a.val, 0, 0] S1x1x128.size h').emb x) 0 = a := by
    apply Fin.ext
    simp [Rect.emb_apply]
    exact h0
  have e2 : ix3 (0 : Fin 1) (0 : Fin 1) (((Rect.unit (s := S8x1x128) ![a.val, 0, 0] S1x1x128.size h').emb x) 2) = x := by
    funext b
    apply Fin.ext
    fin_cases b
    · exact h0.symm
    · exact h1.symm
    · simp [Rect.emb_apply]
  erw [e0, e2]

/-- The body's block is the rows of its eight images. -/
theorem block_eq (f : Vec Ideal S8x2048x256 .f32) (w : Vec Ideal S256x2048 .f32) (x2 : Vec Ideal S5x256x256 .f32) :
    out0_3 f w x2 = rows (n := 8) f w x2 := by
  rw [out_eq]
  funext y
  refine View.canon_apply_of_pieces _ _ ?_ y ?_
  · intro p hp
    simp only [List.mem_cons, List.mem_nil_iff, or_false] at hp
    rcases hp with rfl | rfl | rfl | rfl | rfl | rfl | rfl | rfl
    · exact piece_row f w x2 7 _ inb_S8x1x128_S1x1x128_7_0_0
    · exact piece_row f w x2 6 _ inb_S8x1x128_S1x1x128_6_0_0
    · exact piece_row f w x2 5 _ inb_S8x1x128_S1x1x128_5_0_0
    · exact piece_row f w x2 4 _ inb_S8x1x128_S1x1x128_4_0_0
    · exact piece_row f w x2 3 _ inb_S8x1x128_S1x1x128_3_0_0
    · exact piece_row f w x2 2 _ inb_S8x1x128_S1x1x128_2_0_0
    · exact piece_row f w x2 1 _ inb_S8x1x128_S1x1x128_1_0_0
    · exact piece_row f w x2 0 _ inb_S8x1x128_S1x1x128_0_0_0
  · have h0 : (y 0).val < 8 := (y 0).isLt
    have h1 : (y 1).val < 1 := (y 1).isLt
    have h2 : (y 2).val < 128 := (y 2).isLt
    have hm : ∀ a : Fin 8, ∀ h, (y 0).val = a.val → y ∈ (Rect.unit (s := S8x1x128) ![a.val, 0, 0] S1x1x128.size h).set := by
      intro a h e
      rw [Rect.mem_set_unit]
      intro b
      fin_cases b
      · exact ⟨e.ge, by show (y 0).val < a.val + 1; omega⟩
      · exact ⟨Nat.zero_le _, by show (y 1).val < 0 + 1; omega⟩
      · exact ⟨Nat.zero_le _, by show (y 2).val < 0 + 128; omega⟩
    obtain e | e | e | e | e | e | e | e : (y 0).val = 7 ∨ (y 0).val = 6 ∨ (y 0).val = 5 ∨ (y 0).val = 4
        ∨ (y 0).val = 3 ∨ (y 0).val = 2 ∨ (y 0).val = 1 ∨ (y 0).val = 0 := by omega
    · exact ⟨_, .head _, hm 7 inb_S8x1x128_S1x1x128_7_0_0 e⟩
    · exact ⟨_, .tail _ (.head _), hm 6 inb_S8x1x128_S1x1x128_6_0_0 e⟩
    · exact ⟨_, .tail _ (.tail _ (.head _)), hm 5 inb_S8x1x128_S1x1x128_5_0_0 e⟩
    · exact ⟨_, .tail _ (.tail _ (.tail _ (.head _))), hm 4 inb_S8x1x128_S1x1x128_4_0_0 e⟩
    · exact ⟨_, .tail _ (.tail _ (.tail _ (.tail _ (.head _)))), hm 3 inb_S8x1x128_S1x1x128_3_0_0 e⟩
    · exact ⟨_, .tail _ (.tail _ (.tail _ (.tail _ (.tail _ (.head _))))), hm 2 inb_S8x1x128_S1x1x128_2_0_0 e⟩
    · exact ⟨_, .tail _ (.tail _ (.tail _ (.tail _ (.tail _ (.tail _ (.head _)))))), hm 1 inb_S8x1x128_S1x1x128_1_0_0 e⟩
    · exact ⟨_, .tail _ (.tail _ (.tail _ (.tail _ (.tail _ (.tail _ (.tail _ (.head _))))))), hm 0 inb_S8x1x128_S1x1x128_0_0_0 e⟩

end Cert.KernelIdeal.Image

end
-- ==== Proof.Region.lean ====
/- The array the region leaves, off the arrays it finds. -/
module

public import proofs.«01_k».proof.Proof.Block
public import Idealize.ShloMosaic.Lib.Pipeline.ValueKit

@[expose] public section

set_option maxRecDepth 16384

noncomputable section

namespace Cert.KernelIdeal.Image

open Idealize.SL Idealize.SL.Sem
open Cert.KernelIdeal Cert.KernelIdeal.Gen Idealize.ShloMosaic Idealize.ShloMosaic.TcCoe

variable (m : (ℓ : Loc nD τ sig) → Buf (Elt Ideal) ℓ) (c : Dev nD)

/-- The blocks' places: the features' and the output's move with the grid point, the weights stay. -/
theorem places : ∀ t : Fin cfg0.N, (cfg0.win 0).index t = ![t.val, 0, 0] ∧ (cfg0.win 1).index t = ![0, 0]
    ∧ (cfg0.win 2).index t = ![0, 0, 0] ∧ (cfg0.win 3).index t = ![t.val, 0, 0] := by decide +kernel

/-- The features the region finds. -/
def feats : S64x2048x256.Idx → EReal := V m c main_call0_v1
/-- The reduction weights the region finds. -/
def wRed : Vec Ideal S256x2048 .f32 := V m c main_arg1
/-- The head weights the region finds. -/
def wHead : Vec Ideal S5x256x256 .f32 := V m c main_call0_v534

/-- The reduction weights' block is the whole array. -/
theorem iblk_red (t : Fin cfg0.N) : (iblk m c 1 t : Vec Ideal S256x2048 .f32) = wRed m c := by
  have e := (places t).2.1
  funext y
  unfold wRed
  blk_ext [iblk, e]

/-- The head weights' block is the whole array. -/
theorem iblk_head (t : Fin cfg0.N) : (iblk m c 2 t : Vec Ideal S5x256x256 .f32) = wHead m c := by
  have e := (places t).2.2.1
  funext y
  unfold wHead
  blk_ext [iblk, e]

/-- The features' block at point `t` holds image `8 t + a` of the array in place `a`. -/
theorem iblk_image (t : Fin cfg0.N) (a : Fin 8) (b : Fin 64) (h : b.val = 8 * t.val + a.val) :
    image (n := 8) (iblk m c 0 t : Vec Ideal S8x2048x256 .f32) a = image (n := 64) (feats m c) b := by
  have e := (places t).1
  funext y
  unfold image feats
  blk_ext [iblk, e]

/-- The region leaves the rows of the 64 images. -/
theorem region_eq : (dats m 0 c).arrAt 3 (cfgs 0).N = rows (n := 64) (feats m c) (wRed m c) (wHead m c) := by
  refine (dats m 0 c).arrAt_eq_of_covers 3 _ (by decide +kernel) fun t hf y => ?_
  blk_simp
  rw [after0_3, block_eq, iblk_red, iblk_head]
  have e := (places t).2.2.2
  unfold rows
  have h0 : (((cfg0.win 3).blk t).view.emb y 0).val = 8 * t.val + (y 0).val := by
    blk_simp [e]
    omega
  have h2 : (((cfg0.win 3).blk t).view.emb y 2) = y 2 := by
    apply Fin.ext
    blk_simp [e]
  refine (congrArg (fun f => imageRow (wRed m c) (wHead m c) f (ix3 0 0 (y 2))) (iblk_image m c t (y 0) _ h0)).trans ?_
  exact congrArg (fun l => imageRow _ _ _ (ix3 0 0 l)) h2.symm

end Cert.KernelIdeal.Image

end
-- ==== Proof.Stack.lean ====
/- Reading the stacked head weights: bands of rows laid end to end, and windows of the padded weights. -/
module
public import proofs.«01_k».proof.Proof.Gen.KernelIdeal.Frame
public import Idealize.ShloMosaic.Lib.Pointwise
public import Idealize.ShloMosaic.Lib.StableHlo.ReadAt
public import Idealize.ShloMosaic.Lib.Pipeline.Value

@[expose] public section

set_option maxRecDepth 16384

noncomputable section

namespace Cert.KernelIdeal.Weights

open Idealize.SL Idealize.SL.Sem
open Cert.KernelIdeal Cert.KernelIdeal.Gen Idealize.ShloMosaic Idealize.ShloMosaic.TcCoe

/-- Sixteen bands of sixteen rows laid end to end, read in row `b` of band `a`. -/
theorem bands_apply {α : Type} (p0 p1 p2 p3 p4 p5 p6 p7 p8 p9 p10 p11 p12 p13 p14 p15 : S5x16x256.Idx → α) (h) (k : Fin 5) (a b : Fin 16) (j : Fin 256)
    (hi : 16 * a.val + b.val < 256) :
    concatenate S5x256x256 1 [⟨S5x16x256, p0⟩, ⟨S5x16x256, p1⟩, ⟨S5x16x256, p2⟩, ⟨S5x16x256, p3⟩, ⟨S5x16x256, p4⟩, ⟨S5x16x256, p5⟩, ⟨S5x16x256, p6⟩, ⟨S5x16x256, p7⟩, ⟨S5x16x256, p8⟩, ⟨S5x16x256, p9⟩, ⟨S5x16x256, p10⟩, ⟨S5x16x256, p11⟩, ⟨S5x16x256, p12⟩, ⟨S5x16x256, p13⟩, ⟨S5x16x256, p14⟩, ⟨S5x16x256, p15⟩] h
      (ix3 k ⟨16 * a.val + b.val, hi⟩ j)
      = ![p0 (ix3 k b j), p1 (ix3 k b j), p2 (ix3 k b j), p3 (ix3 k b j), p4 (ix3 k b j), p5 (ix3 k b j), p6 (ix3 k b j), p7 (ix3 k b j), p8 (ix3 k b j), p9 (ix3 k b j), p10 (ix3 k b j), p11 (ix3 k b j), p12 (ix3 k b j), p13 (ix3 k b j), p14 (ix3 k b j), p15 (ix3 k b j)] a := by
  have key := concatenate_ofFn_apply (t := S5x256x256) (s₁ := S5x16x256) 1 ![p0, p1, p2, p3, p4, p5, p6, p7, p8, p9, p10, p11, p12, p13, p14, p15] h rfl 16 rfl
    (ix3 k ⟨16 * a.val + b.val, hi⟩ j) a (by show (16 * a.val + b.val) / 16 = _; omega) (ix3 k b j)
    (by show b.val = (16 * a.val + b.val) % 16; omega)
    (by
      intro x hx
      match x with
      | ⟨0, _⟩ => rfl
      | ⟨1, _⟩ => exact absurd rfl hx
      | ⟨2, _⟩ => rfl)
  refine Eq.trans ?_ (key.trans ?_)
  · rfl
  · fin_cases a <;> rfl

/-- Sixteen rows laid end to end, read in row `b`. -/
theorem rows_apply {α : Type} (p0 p1 p2 p3 p4 p5 p6 p7 p8 p9 p10 p11 p12 p13 p14 p15 : S5x1x256.Idx → α) (h) (k : Fin 5) (b : Fin 16) (j : Fin 256) :
    concatenate S5x16x256 1 [⟨S5x1x256, p0⟩, ⟨S5x1x256, p1⟩, ⟨S5x1x256, p2⟩, ⟨S5x1x256, p3⟩, ⟨S5x1x256, p4⟩, ⟨S5x1x256, p5⟩, ⟨S5x1x256, p6⟩, ⟨S5x1x256, p7⟩, ⟨S5x1x256, p8⟩, ⟨S5x1x256, p9⟩, ⟨S5x1x256, p10⟩, ⟨S5x1x256, p11⟩, ⟨S5x1x256, p12⟩, ⟨S5x1x256, p13⟩, ⟨S5x1x256, p14⟩, ⟨S5x1x256, p15⟩] h
      (ix3 k b j)
      = ![p0 (ix3 k 0 j), p1 (ix3 k 0 j), p2 (ix3 k 0 j), p3 (ix3 k 0 j), p4 (ix3 k 0 j), p5 (ix3 k 0 j), p6 (ix3 k 0 j), p7 (ix3 k 0 j), p8 (ix3 k 0 j), p9 (ix3 k 0 j), p10 (ix3 k 0 j), p11 (ix3 k 0 j), p12 (ix3 k 0 j), p13 (ix3 k 0 j), p14 (ix3 k 0 j), p15 (ix3 k 0 j)] b := by
  have key := concatenate_ofFn_apply (t := S5x16x256) (s₁ := S5x1x256) 1 ![p0, p1, p2, p3, p4, p5, p6, p7, p8, p9, p10, p11, p12, p13, p14, p15] h rfl 1 rfl
    (ix3 k b j) b (by show b.val / 1 = _; omega) (ix3 k 0 j)
    (by show 0 = b.val % 1; omega)
    (by
      intro x hx
      match x with
      | ⟨0, _⟩ => rfl
      | ⟨1, _⟩ => exact absurd rfl hx
      | ⟨2, _⟩ => rfl)
  refine Eq.trans ?_ (key.trans ?_)
  · rfl
  · fin_cases b <;> rfl

/-- The padded weights read at row `k`, place `n` (places wrap round at the end, which no window reaches). -/
def at2 {α : Type} (x : S5x33152.Idx → α) (k : Fin 5) (n : Nat) : α := x (ix2 k ⟨n % 33152, Nat.mod_lt _ (by decide)⟩)

/-- A window of 256 places, standing as one row, read at place `j`. -/
theorem window_apply {α : Type} (x : S5x33152.Idx → α) (o : Nat) (h : S5x33152.Slices ![0, o] S5x256)
    (ho : o + 256 ≤ 33152) (k : Fin 5) (j : Fin 256) :
    broadcastInDim S5x1x256 ![0, 2] bcast_S5x256_S5x1x256_0_2 (extractStridedSlice S5x256 ![0, o] x h) (ix3 k 0 j)
      = at2 x k (o + j.val) := by
  have hj : (o + j.val) % 33152 = o + j.val := Nat.mod_eq_of_lt (by have := j.isLt; omega)
  unfold at2
  simp only [hj]
  pointwise

end Cert.KernelIdeal.Weights

end
-- ==== Proof.StackRead.lean ====
/- The stacked head weights the launch builds, read at an index off the padded weights. -/
module

public import proofs.«01_k».proof.Proof.Stack

@[expose] public section

set_option maxRecDepth 16384

noncomputable section

namespace Cert.KernelIdeal.Weights

open Idealize.SL Idealize.SL.Sem
open Cert.KernelIdeal Cert.KernelIdeal.Gen Idealize.ShloMosaic Idealize.ShloMosaic.TcCoe

/-- The launch's operations from the padded weights on. -/
def tail : List (HloOp τ sig (Elt Ideal)) := hostOps0.drop 7

/-- Row `i` of the triangle starts `255 i - i (i - 1) / 2 + i` places into the weights; its window starts `i` places earlier. -/
def start (i : Nat) : Nat := 255 * i - i * (i - 1) / 2

set_option maxHeartbeats 4000000 in
/-- The stacked weights hold, in row `16 a + b` of head `k`, the window of the padded weights that starts at that row's start. -/
theorem stack_apply (U : Valuation τ sig (Elt Ideal)) (k : Fin 5) (a b : Fin 16) (j : Fin 256)
    (hi : 16 * a.val + b.val < 256) : (StableHlo.after tail U main_call0_v532 : S5x256x256.Idx → EReal)
    (ix3 k ⟨16 * a.val + b.val, hi⟩ j) = at2 (U main_call0_v3) k (start (16 * a.val + b.val) + j.val) := by
  after_reads_simp [Matrix.cons_val]
  simp -implicitDefEqProofs only [StableHlo.TRef.toBuf, StableHlo.TRef.ofBuf, cast_cast, cast_eq]
  rw [bands_apply]
  after_reads_simp [Matrix.cons_val]
  simp -implicitDefEqProofs only [StableHlo.TRef.toBuf, StableHlo.TRef.ofBuf, cast_cast, cast_eq]
  simp only [rows_apply]
  after_reads_simp [Matrix.cons_val]
  simp -implicitDefEqProofs only [StableHlo.TRef.toBuf, StableHlo.TRef.ofBuf, cast_cast, cast_eq]
  fin_cases a <;> fin_cases b <;> exact window_apply (α := EReal) _ _ (by decide) (by decide) k j

end Cert.KernelIdeal.Weights

end
-- ==== Proof.Table.lean ====
/- A property of every entry of a listed table, from its first entry on. -/
module

public import Mathlib.Tactic.IntervalCases
public import Mathlib.Data.Nat.Basic

@[expose] public section

namespace Cert.Table

/-- Every entry of a list has the property `P` at its place, the first entry at place `n`. -/
def AllP {β : Type} (P : Nat → β → Prop) : Nat → List β → Prop
  | _, [] => True
  | n, a :: l => P n a ∧ AllP P (n + 1) l

/-- The property of all entries is decided entry by entry. -/
instance AllP.dec {β : Type} (P : Nat → β → Prop) [∀ n v, Decidable (P n v)] :
    ∀ (n : Nat) (l : List β), Decidable (AllP P n l)
  | _, [] => isTrue trivial
  | n, _ :: l => @instDecidableAnd _ _ inferInstance (AllP.dec P (n + 1) l)

/-- An entry of such a list has the property at its place. -/
theorem allP_get {β : Type} (P : Nat → β → Prop) :
    ∀ (n : Nat) (l : List β), AllP P n l → ∀ (x : Nat) (h : x < l.length), P (n + x) l[x]
  | _, [], _, _, h => absurd h (Nat.not_lt_zero _)
  | _, _ :: _, H, 0, _ => H.1
  | n, _ :: l, H, x + 1, h => by
    have := allP_get P (n + 1) l H.2 x (Nat.lt_of_succ_lt_succ h)
    rwa [Nat.add_right_comm] at this

/-- Putting one entry in front of a list whose entries have the property. -/
theorem allP_cons {β : Type} {P : Nat → β → Prop} {n : Nat} {a : β} {l : List β} (h : P n a)
    (H : AllP P (n + 1) l) : AllP P n (a :: l) := ⟨h, H⟩

end Cert.Table
-- ==== Proof.TableMask.lean ====
/- The kernel's triangular mask, entry by entry. -/
module

public import proofs.«01_k».proof.Proof.Gen.KernelIdeal.Frame
public import proofs.«01_k».proof.Proof.Table

@[expose] public section

set_option maxRecDepth 16384

namespace Cert.KernelIdeal.Table

open Cert.Table

/-- Entry `n` of the flattened mask: the float 1 on and above the diagonal, the float 0 below it. -/
def Tri (n : Nat) (v : BitVec 32) : Prop :=
  v = if n / 256 ≤ n % 256 then 1065353216#32 else 0#32

/-- Whether a word is the expected one can be decided. -/
instance (n : Nat) (v : BitVec 32) : Decidable (Tri n v) := inferInstanceAs (Decidable (_ = _))

/-- A choice among 128 entries has the property its entries have, each at its place. -/
theorem pickA {β : Type} (P : Nat → β → Prop) (base x : Nat) (hx : x < 128)
    (h0 h1 h2 h3 h4 h5 h6 h7 h8 h9 h10 h11 h12 h13 h14 h15 h16 h17 h18 h19 h20 h21 h22 h23 h24 h25 h26 h27 h28 h29
    h30 h31 h32 h33 h34 h35 h36 h37 h38 h39 h40 h41 h42 h43 h44 h45 h46 h47 h48 h49 h50 h51 h52 h53 h54 h55 h56 h57
    h58 h59 h60 h61 h62 h63 h64 h65 h66 h67 h68 h69 h70 h71 h72 h73 h74 h75 h76 h77 h78 h79 h80 h81 h82 h83 h84 h85
    h86 h87 h88 h89 h90 h91 h92 h93 h94 h95 h96 h97 h98 h99 h100 h101 h102 h103 h104 h105 h106 h107 h108 h109 h110
    h111 h112 h113 h114 h115 h116 h117 h118 h119 h120 h121 h122 h123 h124 h125 h126 h127 : Unit → β)
    (d : Nat → β)
    (H : AllP P base
      [h0 (), h1 (), h2 (), h3 (), h4 (), h5 (), h6 (), h7 (), h8 (), h9 (), h10 (), h11 (), h12 (), h13 (), h14 (),
      h15 (), h16 (), h17 (), h18 (), h19 (), h20 (), h21 (), h22 (), h23 (), h24 (), h25 (), h26 (), h27 (), h28
      (), h29 (), h30 (), h31 (), h32 (), h33 (), h34 (), h35 (), h36 (), h37 (), h38 (), h39 (), h40 (), h41 (),
      h42 (), h43 (), h44 (), h45 (), h46 (), h47 (), h48 (), h49 (), h50 (), h51 (), h52 (), h53 (), h54 (), h55
      (), h56 (), h57 (), h58 (), h59 (), h60 (), h61 (), h62 (), h63 (), h64 (), h65 (), h66 (), h67 (), h68 (),
      h69 (), h70 (), h71 (), h72 (), h73 (), h74 (), h75 (), h76 (), h77 (), h78 (), h79 (), h80 (), h81 (), h82
      (), h83 (), h84 (), h85 (), h86 (), h87 (), h88 (), h89 (), h90 (), h91 (), h92 (), h93 (), h94 (), h95 (),
      h96 (), h97 (), h98 (), h99 (), h100 (), h101 (), h102 (), h103 (), h104 (), h105 (), h106 (), h107 (), h108
      (), h109 (), h110 (), h111 (), h112 (), h113 (), h114 (), h115 (), h116 (), h117 (), h118 (), h119 (), h120
      (), h121 (), h122 (), h123 (), h124 (), h125 (), h126 (), h127 ()]) :
    P (base + x) (hbmTy0_0.match_1 (fun _ => β) x
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56
      h57 h58 h59 h60 h61 h62 h63 h64 h65 h66 h67 h68 h69 h70 h71 h72 h73 h74 h75 h76 h77 h78 h79 h80 h81 h82 h83
      h84 h85 h86 h87 h88 h89 h90 h91 h92 h93 h94 h95 h96 h97 h98 h99 h100 h101 h102 h103 h104 h105 h106 h107 h108
      h109 h110 h111 h112 h113 h114 h115 h116 h117 h118 h119 h120 h121 h122 h123 h124 h125 h126 h127 d) := by
  have h := allP_get P base _ H x hx
  interval_cases x <;> exact h

/-- The same for another spelling of the choice. -/
theorem pickB {β : Type} (P : Nat → β → Prop) (base x : Nat) (hx : x < 128)
    (h0 h1 h2 h3 h4 h5 h6 h7 h8 h9 h10 h11 h12 h13 h14 h15 h16 h17 h18 h19 h20 h21 h22 h23 h24 h25 h26 h27 h28 h29
    h30 h31 h32 h33 h34 h35 h36 h37 h38 h39 h40 h41 h42 h43 h44 h45 h46 h47 h48 h49 h50 h51 h52 h53 h54 h55 h56 h57
    h58 h59 h60 h61 h62 h63 h64 h65 h66 h67 h68 h69 h70 h71 h72 h73 h74 h75 h76 h77 h78 h79 h80 h81 h82 h83 h84 h85
    h86 h87 h88 h89 h90 h91 h92 h93 h94 h95 h96 h97 h98 h99 h100 h101 h102 h103 h104 h105 h106 h107 h108 h109 h110
    h111 h112 h113 h114 h115 h116 h117 h118 h119 h120 h121 h122 h123 h124 h125 h126 h127 : Unit → β)
    (d : Nat → β)
    (H : AllP P base
      [h0 (), h1 (), h2 (), h3 (), h4 (), h5 (), h6 (), h7 (), h8 (), h9 (), h10 (), h11 (), h12 (), h13 (), h14 (),
      h15 (), h16 (), h17 (), h18 (), h19 (), h20 (), h21 (), h22 (), h23 (), h24 (), h25 (), h26 (), h27 (), h28
      (), h29 (), h30 (), h31 (), h32 (), h33 (), h34 (), h35 (), h36 (), h37 (), h38 (), h39 (), h40 (), h41 (),
      h42 (), h43 (), h44 (), h45 (), h46 (), h47 (), h48 (), h49 (), h50 (), h51 (), h52 (), h53 (), h54 (), h55
      (), h56 (), h57 (), h58 (), h59 (), h60 (), h61 (), h62 (), h63 (), h64 (), h65 (), h66 (), h67 (), h68 (),
      h69 (), h70 (), h71 (), h72 (), h73 (), h74 (), h75 (), h76 (), h77 (), h78 (), h79 (), h80 (), h81 (), h82
      (), h83 (), h84 (), h85 (), h86 (), h87 (), h88 (), h89 (), h90 (), h91 (), h92 (), h93 (), h94 (), h95 (),
      h96 (), h97 (), h98 (), h99 (), h100 (), h101 (), h102 (), h103 (), h104 (), h105 (), h106 (), h107 (), h108
      (), h109 (), h110 (), h111 (), h112 (), h113 (), h114 (), h115 (), h116 (), h117 (), h118 (), h119 (), h120
      (), h121 (), h122 (), h123 (), h124 (), h125 (), h126 (), h127 ()]) :
    P (base + x) (lit0t0_149.match_1 (fun _ => β) x
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56
      h57 h58 h59 h60 h61 h62 h63 h64 h65 h66 h67 h68 h69 h70 h71 h72 h73 h74 h75 h76 h77 h78 h79 h80 h81 h82 h83
      h84 h85 h86 h87 h88 h89 h90 h91 h92 h93 h94 h95 h96 h97 h98 h99 h100 h101 h102 h103 h104 h105 h106 h107 h108
      h109 h110 h111 h112 h113 h114 h115 h116 h117 h118 h119 h120 h121 h122 h123 h124 h125 h126 h127 d) := by
  have h := allP_get P base _ H x hx
  interval_cases x <;> exact h

/-- The same for another spelling of the choice. -/
theorem pickC {β : Type} (P : Nat → β → Prop) (base x : Nat) (hx : x < 128)
    (h0 h1 h2 h3 h4 h5 h6 h7 h8 h9 h10 h11 h12 h13 h14 h15 h16 h17 h18 h19 h20 h21 h22 h23 h24 h25 h26 h27 h28 h29
    h30 h31 h32 h33 h34 h35 h36 h37 h38 h39 h40 h41 h42 h43 h44 h45 h46 h47 h48 h49 h50 h51 h52 h53 h54 h55 h56 h57
    h58 h59 h60 h61 h62 h63 h64 h65 h66 h67 h68 h69 h70 h71 h72 h73 h74 h75 h76 h77 h78 h79 h80 h81 h82 h83 h84 h85
    h86 h87 h88 h89 h90 h91 h92 h93 h94 h95 h96 h97 h98 h99 h100 h101 h102 h103 h104 h105 h106 h107 h108 h109 h110
    h111 h112 h113 h114 h115 h116 h117 h118 h119 h120 h121 h122 h123 h124 h125 h126 h127 : Unit → β)
    (d : Nat → β)
    (H : AllP P base
      [h0 (), h1 (), h2 (), h3 (), h4 (), h5 (), h6 (), h7 (), h8 (), h9 (), h10 (), h11 (), h12 (), h13 (), h14 (),
      h15 (), h16 (), h17 (), h18 (), h19 (), h20 (), h21 (), h22 (), h23 (), h24 (), h25 (), h26 (), h27 (), h28
      (), h29 (), h30 (), h31 (), h32 (), h33 (), h34 (), h35 (), h36 (), h37 (), h38 (), h39 (), h40 (), h41 (),
      h42 (), h43 (), h44 (), h45 (), h46 (), h47 (), h48 (), h49 (), h50 (), h51 (), h52 (), h53 (), h54 (), h55
      (), h56 (), h57 (), h58 (), h59 (), h60 (), h61 (), h62 (), h63 (), h64 (), h65 (), h66 (), h67 (), h68 (),
      h69 (), h70 (), h71 (), h72 (), h73 (), h74 (), h75 (), h76 (), h77 (), h78 (), h79 (), h80 (), h81 (), h82
      (), h83 (), h84 (), h85 (), h86 (), h87 (), h88 (), h89 (), h90 (), h91 (), h92 (), h93 (), h94 (), h95 (),
      h96 (), h97 (), h98 (), h99 (), h100 (), h101 (), h102 (), h103 (), h104 (), h105 (), h106 (), h107 (), h108
      (), h109 (), h110 (), h111 (), h112 (), h113 (), h114 (), h115 (), h116 (), h117 (), h118 (), h119 (), h120
      (), h121 (), h122 (), h123 (), h124 (), h125 (), h126 (), h127 ()]) :
    P (base + x) (lit0t0_346.match_1 (fun _ => β) x
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56
      h57 h58 h59 h60 h61 h62 h63 h64 h65 h66 h67 h68 h69 h70 h71 h72 h73 h74 h75 h76 h77 h78 h79 h80 h81 h82 h83
      h84 h85 h86 h87 h88 h89 h90 h91 h92 h93 h94 h95 h96 h97 h98 h99 h100 h101 h102 h103 h104 h105 h106 h107 h108
      h109 h110 h111 h112 h113 h114 h115 h116 h117 h118 h119 h120 h121 h122 h123 h124 h125 h126 h127 d) := by
  have h := allP_get P base _ H x hx
  interval_cases x <;> exact h

/-- The entries 0 to 16383. -/
theorem tri_part0 (i : Nat) : Tri (128 * (0 + i / 128 % 128) + i % 128) (lit0t1_0 i) := by
  have hx : i % 128 < 128 := Nat.mod_lt _ (by decide)
  apply pickC (fun q (v : BitVec 32) => Tri (128 * q + i % 128) v) 0 (i / 128 % 128) (Nat.mod_lt _ (by decide))
  repeat' apply allP_cons
  on_goal 129 => trivial
  all_goals first
    | (apply pickA Tri _ _ hx; decide +kernel)
    | (apply pickB Tri _ _ hx; decide +kernel)
    | (apply pickC Tri _ _ hx; decide +kernel)

/-- The entries 16384 to 32767. -/
theorem tri_part1 (i : Nat) : Tri (128 * (128 + i / 128 % 128) + i % 128) (lit0t1_1 i) := by
  have hx : i % 128 < 128 := Nat.mod_lt _ (by decide)
  apply pickC (fun q (v : BitVec 32) => Tri (128 * q + i % 128) v) 128 (i / 128 % 128) (Nat.mod_lt _ (by decide))
  repeat' apply allP_cons
  on_goal 129 => trivial
  all_goals first
    | (apply pickA Tri _ _ hx; decide +kernel)
    | (apply pickB Tri _ _ hx; decide +kernel)
    | (apply pickC Tri _ _ hx; decide +kernel)

/-- The entries 32768 to 49151. -/
theorem tri_part2 (i : Nat) : Tri (128 * (256 + i / 128 % 128) + i % 128) (lit0t1_2 i) := by
  have hx : i % 128 < 128 := Nat.mod_lt _ (by decide)
  apply pickC (fun q (v : BitVec 32) => Tri (128 * q + i % 128) v) 256 (i / 128 % 128) (Nat.mod_lt _ (by decide))
  repeat' apply allP_cons
  on_goal 129 => trivial
  all_goals first
    | (apply pickA Tri _ _ hx; decide +kernel)
    | (apply pickB Tri _ _ hx; decide +kernel)
    | (apply pickC Tri _ _ hx; decide +kernel)

/-- The entries 49152 to 65535. -/
theorem tri_part3 (i : Nat) : Tri (128 * (384 + i / 128 % 128) + i % 128) (lit0t1_3 i) := by
  have hx : i % 128 < 128 := Nat.mod_lt _ (by decide)
  apply pickC (fun q (v : BitVec 32) => Tri (128 * q + i % 128) v) 384 (i / 128 % 128) (Nat.mod_lt _ (by decide))
  repeat' apply allP_cons
  on_goal 129 => trivial
  all_goals first
    | (apply pickA Tri _ _ hx; decide +kernel)
    | (apply pickB Tri _ _ hx; decide +kernel)
    | (apply pickC Tri _ _ hx; decide +kernel)

/-- Every entry of the mask is 1 on and above the diagonal and 0 below it. -/
theorem tri_lit0 (p : Fin 65536) : Tri p.val (lit0 p) := by
  obtain ⟨p, hp⟩ := p
  show Tri p (lit0t p)
  have h : p / 16384 = 0 ∨ p / 16384 = 1 ∨ p / 16384 = 2 ∨ p / 16384 = 3 := by omega
  rcases h with h | h | h | h
  · have e : lit0t p = lit0t1_0 p := by unfold lit0t; rw [h]; rfl
    have e' : 128 * (0 + p / 128 % 128) + p % 128 = p := by omega
    rw [e]; conv => arg 1; rw [← e']
    exact tri_part0 p
  · have e : lit0t p = lit0t1_1 p := by unfold lit0t; rw [h]; rfl
    have e' : 128 * (128 + p / 128 % 128) + p % 128 = p := by omega
    rw [e]; conv => arg 1; rw [← e']
    exact tri_part1 p
  · have e : lit0t p = lit0t1_2 p := by unfold lit0t; rw [h]; rfl
    have e' : 128 * (256 + p / 128 % 128) + p % 128 = p := by omega
    rw [e]; conv => arg 1; rw [← e']
    exact tri_part2 p
  · have e : lit0t p = lit0t1_3 p := by unfold lit0t; rw [h]; rfl
    have e' : 128 * (384 + p / 128 % 128) + p % 128 = p := by omega
    rw [e]; conv => arg 1; rw [← e']
    exact tri_part3 p

end Cert.KernelIdeal.Table
-- ==== Proof.Weights.lean ====
/- The arrays the region finds, read off the launched arguments. -/
module

public import proofs.«01_k».proof.Proof.StackRead
public import proofs.«01_k».proof.Proof.TableMask
public import Idealize.ShloMosaic.Lib.Pipeline.Frame

@[expose] public section

set_option maxRecDepth 16384

noncomputable section

namespace Cert.KernelIdeal.Weights

open Idealize.SL Idealize.SL.Sem
open Cert.KernelIdeal Cert.KernelIdeal.Gen Idealize.ShloMosaic Idealize.ShloMosaic.TcCoe

variable (W : Valuation τ sig (Elt Ideal))

/-- The launch's first seven operations. -/
def front : List (HloOp τ sig (Elt Ideal)) := hostOps0.take 7

/-- What the first seven operations leave. -/
def mid : Valuation τ sig (Elt Ideal) := StableHlo.after front W

/-- The whole launch is its first seven operations and the rest. -/
theorem after_front : StableHlo.after hostOps0 W = StableHlo.after tail (mid W) := by
  unfold mid
  rw [← StableHlo.after_append]
  rfl

/-- The launch's last two operations: the mask is spread over the heads and multiplied in. -/
def final : List (HloOp τ sig (Elt Ideal)) := hostOps0.drop 536

/-- What all but the last two operations leave. -/
def late : Valuation τ sig (Elt Ideal) := StableHlo.after (hostOps0.take 536) W

/-- The whole launch is all but its last two operations and those two. -/
theorem after_final : StableHlo.after hostOps0 W = StableHlo.after final (late W) := by
  unfold late
  rw [← StableHlo.after_append]
  rfl

/-- The last two operations keep the stacked weights. -/
theorem final_stack (U : Valuation τ sig (Elt Ideal)) : StableHlo.after final U main_call0_v532 = U main_call0_v532 := by
  after_reads_simp [Matrix.cons_val]

/-- The last two operations keep the mask. -/
theorem final_mask (U : Valuation τ sig (Elt Ideal)) : StableHlo.after final U main_call0_v0 = U main_call0_v0 := by
  after_reads_simp [Matrix.cons_val]

/-- The stacked weights as an array. -/
def stack (U : Valuation τ sig (Elt Ideal)) : FVec Ideal S5x256x256 .f32 := U main_call0_v532
/-- The mask as an array. -/
def mask (U : Valuation τ sig (Elt Ideal)) : FVec Ideal S1x256x256 .f32 := U main_call0_v0
/-- The masked weights as an array. -/
def masked (U : Valuation τ sig (Elt Ideal)) : FVec Ideal S5x256x256 .f32 := U main_call0_v534

/-- The last two operations multiply the stacked weights by the mask. -/
theorem final_masked (U : Valuation τ sig (Elt Ideal)) (k : Fin 5) (i j : Fin 256) :
    masked (StableHlo.after final U) (ix3 k i j) = stack U (ix3 k i j) * mask U (ix3 0 i j) := by
  unfold masked stack mask
  after_reads_simp [Matrix.cons_val]
  simp -implicitDefEqProofs only [StableHlo.TRef.toBuf, StableHlo.TRef.ofBuf, cast_cast, cast_eq]
  clean_types
  pointwise

/-- The weights padded to the windows' reach. -/
def padded (U : Valuation τ sig (Elt Ideal)) : FVec Ideal S5x33152 .f32 := U main_call0_v3
/-- The flattened features as an array. -/
def flat (U : Valuation τ sig (Elt Ideal)) : FVec Ideal S64x2048x256 .f32 := U main_call0_v1

/-- The four-row head's weights. -/
def wType : FVec Ideal S4x32896 .f32 := W main_arg3
/-- The one-row head's weights. -/
def wFlag : FVec Ideal S1x32896 .f32 := W main_arg5
/-- The features. -/
def feat : FVec Ideal S64x2048x16x16 .f32 := W main_arg0

/-- The rest of the launch keeps the mask. -/
theorem tail_mask (U : Valuation τ sig (Elt Ideal)) : mask (StableHlo.after tail U) = mask U := by
  unfold mask
  after_reads_simp [Matrix.cons_val]

/-- The rest of the launch keeps the flattened features. -/
theorem tail_flat (U : Valuation τ sig (Elt Ideal)) : flat (StableHlo.after tail U) = flat U := by
  unfold flat
  after_reads_simp [Matrix.cons_val]

/-- The first operations join the two heads' weights and pad them with zeros on the right. -/
theorem padded_apply (k : Fin 5) (n : Fin 33152) (h : n.val < 32896) :
    padded (mid W) (ix2 k n) = if hk : k.val < 4 then wType W (ix2 ⟨k.val, hk⟩ ⟨n.val, h⟩) else wFlag W (ix2 0 ⟨n.val, h⟩) := by
  unfold padded mid wType wFlag
  after_reads_simp [Matrix.cons_val]
  simp -implicitDefEqProofs only [StableHlo.TRef.toBuf, StableHlo.TRef.ofBuf, cast_cast, cast_eq]
  clean_types
  pointwise
  rw [dif_pos h]
  by_cases hk : k.val < 4
  · rw [dif_pos hk, dif_pos hk]
    after_reads_simp [Matrix.cons_val]
  · rw [dif_neg hk, dif_neg hk]
    after_reads_simp [Matrix.cons_val]
    exact congrArg (fun r => (W main_arg5 : S1x32896.Idx → EReal) (ix2 r ⟨n.val, h⟩)) (Subsingleton.elim _ _)

/-- The mask is one on and above the diagonal and zero below it. -/
theorem mask_apply (i j : Fin 256) : mask (mid W) (ix3 0 i j) = if i.val ≤ j.val then 1 else 0 := by
  unfold mask mid
  after_reads_simp [Matrix.cons_val]
  simp -implicitDefEqProofs only [StableHlo.TRef.toBuf, StableHlo.TRef.ofBuf, cast_cast, cast_eq]
  clean_types
  pointwise
  have ht := Table.tri_lit0 (S256x256.rowMajor (ix2 i j))
  have hv : (S256x256.rowMajor (ix2 i j)).val = 256 * i.val + j.val := by
    rw [Shape.rowMajor_val_two]
    show i.val * 256 + j.val = _
    omega
  unfold Table.Tri at ht
  have hi : (256 * i.val + j.val) / 256 = i.val := by omega
  have hj : (256 * i.val + j.val) % 256 = j.val := by omega
  rw [hv, hi, hj] at ht
  rw [ht]
  split
  · pointwise
  · pointwise

/-- The flattened features are the features, pixel `p` being row `p / 16` and column `p % 16`. -/
theorem flat_apply (b : Fin 64) (c : Fin 2048) (p : Fin 256) :
    flat (mid W) (ix3 b c p) = feat W (ix4 b c ⟨p.val / 16, by omega⟩ ⟨p.val % 16, by omega⟩) := by
  unfold flat mid feat
  after_reads_simp [Matrix.cons_val]
  clean_types
  pointwise

/-- Reading places of the padded weights that a window of the triangle reaches. -/
theorem at2_padded (k : Fin 5) (n : Nat) (h : n < 32896) : at2 (padded (mid W)) k n
      = if hk : k.val < 4 then wType W (ix2 ⟨k.val, hk⟩ ⟨n, h⟩) else wFlag W (ix2 0 ⟨n, h⟩) := by
  have e : n % 33152 = n := Nat.mod_eq_of_lt (by omega)
  unfold at2
  simp only [e]
  exact padded_apply W k ⟨n, by omega⟩ h

/-- The stacked weights hold each row's window. -/
theorem stack_after (k : Fin 5) (i j : Fin 256) : stack (StableHlo.after hostOps0 W) (ix3 k i j)
      = at2 (padded (mid W)) k (start i.val + j.val) := by
  rw [after_front]
  have e : 16 * (i.val / 16) + i.val % 16 = i.val := by omega
  have h := stack_apply (mid W) k ⟨i.val / 16, by omega⟩ ⟨i.val % 16, by omega⟩ j (by show 16 * (i.val / 16) + i.val % 16 < 256; omega)
  simp only [e] at h
  exact h

/-- The masked weights: the stacked weights on and above the diagonal. -/
theorem masked_after (k : Fin 5) (i j : Fin 256) : masked (StableHlo.after hostOps0 W) (ix3 k i j)
      = at2 (padded (mid W)) k (start i.val + j.val) * if i.val ≤ j.val then 1 else 0 := by
  have h1 : stack (late W) = stack (StableHlo.after hostOps0 W) := by
    rw [after_final]; exact (final_stack (late W)).symm
  have h2 : mask (late W) = mask (mid W) := by
    refine Eq.trans ?_ (tail_mask (mid W))
    rw [← after_front, after_final]
    exact (final_mask (late W)).symm
  conv => lhs; rw [after_final]
  rw [final_masked, h1, h2, stack_after, mask_apply]

/-- The flattened features after the launch's operations. -/
theorem flat_after (b : Fin 64) (c : Fin 2048) (p : Fin 256) : flat (StableHlo.after hostOps0 W) (ix3 b c p)
      = feat W (ix4 b c ⟨p.val / 16, by omega⟩ ⟨p.val % 16, by omega⟩) := by
  rw [after_front, tail_flat, flat_apply]

end Cert.KernelIdeal.Weights

end
-- ==== Proof.Tail.lean ====
/- The program's two results, read off the region's array and the head biases. -/
module

public import proofs.«01_k».proof.Proof.Region
public import proofs.«01_k».proof.Proof.Weights

@[expose] public section

set_option maxRecDepth 16384

noncomputable section

namespace Cert.KernelIdeal.Weights

open Idealize.SL Idealize.SL.Sem
open Cert.KernelIdeal Cert.KernelIdeal.Gen Idealize.ShloMosaic Idealize.ShloMosaic.TcCoe

variable (W : Valuation τ sig (Elt Ideal))

/-- The region's array. -/
def sums : FVec Ideal S64x1x128 .f32 := W main_call0_v535
/-- The four-row head's bias. -/
def bType : FVec Ideal S4 .f32 := W main_arg4
/-- The one-row head's bias. -/
def bFlag : FVec Ideal S1 .f32 := W main_arg6
/-- The first result. -/
def outType : FVec Ideal S64x4 .f32 := W main_v0_0
/-- The second result. -/
def outFlag : FVec Ideal S64x1 .f32 := W main_v0_1

/-- The operations after the region take lanes 0 to 3 of the region's array and add the bias. -/
theorem outType_after (b : Fin 64) (k : Fin 4) : outType (StableHlo.after hostOps1 W) (ix2 b k)
      = sums W (ix3 b 0 ⟨k.val, by omega⟩) + bType W (ix1 k) := by
  unfold outType sums bType
  after_reads_simp [Matrix.cons_val]
  simp -implicitDefEqProofs only [StableHlo.TRef.toBuf, StableHlo.TRef.ofBuf, cast_cast, cast_eq]
  clean_types
  pointwise

/-- The operations after the region take lane 4 of the region's array and add the bias. -/
theorem outFlag_after (b : Fin 64) : outFlag (StableHlo.after hostOps1 W) (ix2 b 0)
      = sums W (ix3 b 0 4) + bFlag W (ix1 0) := by
  unfold outFlag sums bFlag
  after_reads_simp [Matrix.cons_val]
  simp -implicitDefEqProofs only [StableHlo.TRef.toBuf, StableHlo.TRef.ofBuf, cast_cast, cast_eq]
  clean_types
  pointwise

end Cert.KernelIdeal.Weights

end
-- ==== Proof.RefVal.lean ====
/- The reference's stages, as the mathematics of one image's channels. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Image

open Cert.ReferenceIdeal Cert.ReferenceIdeal.Gen Cert.ReferenceIdeal.Value Cert.Cov
open Idealize.ShloMosaic Idealize.ShloMosaic.TcCoe

variable (V : Valuation τ sig (Elt Ideal))

/-- The reference's identity matrix: one where the row and column numbers agree. -/
theorem eyeWord (i j : Fin 256) :
    FloatOps.uitofp (F := Ideal) .f32
      (IntOp.cmpi .eq (IntOp.addi (BitVec.ofNat 32 i.val) 0#32) (BitVec.ofNat 32 j.val)) = eye i j := by
  unfold eye
  have hi := i.isLt
  have hj := j.isLt
  by_cases h : i = j
  · subst h
    simp [IntOp.cmpi, IntOp.addi, FloatOps.uitofp]
  · have h' : BitVec.ofNat 32 i.val ≠ BitVec.ofNat 32 j.val := fun e => h (Fin.ext (by
      have := congrArg BitVec.toNat e
      simp only [BitVec.toNat_ofNat] at this
      omega))
    have hb : (BitVec.ofNat 32 i.val == BitVec.ofNat 32 j.val) = false := beq_eq_false_iff_ne.mpr h'
    simp [IntOp.cmpi, IntOp.addi, FloatOps.uitofp, h, hb]

/-- The reference's diagonal choice: the entry where the row and column numbers agree, zero elsewhere. -/
theorem diagWord (i j : Fin 256) (a : EReal) :
    Scalar.select (IntOp.cmpi .eq (IntOp.addi (BitVec.ofNat 32 i.val) 0#32) (BitVec.ofNat 32 j.val)) a 0
      = if i = j then a else 0 := by
  have hi := i.isLt
  have hj := j.isLt
  by_cases h : i = j
  · subst h
    simp [IntOp.cmpi, IntOp.addi, Scalar.select]
  · have h' : BitVec.ofNat 32 i.val ≠ BitVec.ofNat 32 j.val := fun e => h (Fin.ext (by
      have := congrArg BitVec.toNat e
      simp only [BitVec.toNat_ofNat] at this
      omega))
    have hb : (BitVec.ofNat 32 i.val == BitVec.ofNat 32 j.val) = false := beq_eq_false_iff_ne.mpr h'
    simp [IntOp.cmpi, IntOp.addi, Scalar.select, h, hb]

/-- Image `b` of a stack of 64 matrices. -/
def mat (a : FVec Ideal S64x256x256 .f32) (b : Fin 64) : Mat := fun i j => a (ix3 b i j)

/-- The reduced channels of image `b`, before the bias, off the weights and the features. -/
def chanOf (w : FVec Ideal S256x2048 .f32) (f : FVec Ideal S64x2048x16x16 .f32) (b : Fin 64) : Mat := fun i p =>
  ∑ c : Fin 2048, w (ix2 i c) * f (ix4 b c ⟨p.val / 16, by have := p.isLt; omega⟩ ⟨p.val % 16, by omega⟩)

/-- The reduced channels of image `b` of the launched arguments. -/
def chan (b : Fin 64) : Mat := chanOf (V (Proc.tc.devRef main_arg1)) (V (Proc.tc.devRef main_arg0)) b

/-- The bias vector. -/
def biasVec : FVec Ideal S256 .f32 := V (Proc.tc.devRef main_arg2)

/-- The bias of a reduced channel. -/
def bias (i : Fin 256) : EReal := biasVec V (ix1 i)

/-- Image `b` after the bottleneck: the reduced channels plus the bias. -/
theorem v5_mat (b : Fin 64) : mat (res_main_v5 V) b = fun i p => chan V b i p + bias V i := by
  funext i j
  pointwise [mat, res_main_v5, chan, chanOf, bias, biasVec]

/-- Centring takes each channel's mean off it. -/
theorem v11_mat (b : Fin 64) : mat (res_main_v11 V) b = centre (mat (res_main_v5 V) b) := by
  funext i j
  pointwise [mat, res_main_v11, centre, c256]

/-- The covariance: inner products of centred channels, divided by 256. -/
theorem v14_mat (b : Fin 64) : mat (res_main_v14 V) b = fun i j =>
    Ideal.div (∑ x, mat (res_main_v11 V) b i x * mat (res_main_v11 V) b j x) c256 := by
  funext i j
  pointwise [mat, res_main_v14, c256]

/-- The reference's covariance is that of the channels, the finite bias cancelling. -/
theorem cov_mat (hb : ∀ i, ∃ r : ℝ, bias V i = r) (b : Fin 64) : mat (res_main_v14 V) b = cov (chan V b) := by
  rw [v14_mat, v11_mat, v5_mat, centre_add _ _ hb]
  funext i j
  exact div_c256 _

/-- The traces of the 64 covariances. -/
def traces : FVec Ideal S64 .f32 := res_main_v23 V

/-- The trace. -/
theorem trace_mat (b : Fin 64) : traces V (ix1 b) = tr (mat (res_main_v14 V) b) := by
  have h : traces V (ix1 b)
      = ∑ x : Fin 256, ∑ y : Fin 256, if x = y then mat (res_main_v14 V) b x y else 0 := by
    simp only [← diagWord]
    pointwise [traces, res_main_v23, mat]
  rw [h]
  unfold tr
  refine Finset.sum_congr rfl fun x _ => ?_
  rw [Finset.sum_ite_eq]
  simp

/-- Three times the identity less a matrix. -/
theorem v22_lack (a : FVec Ideal S64x256x256 .f32) (b : Fin 64) :
    mat (subf (broadcastInDim S64x256x256 ![0, 1, 2] bcast_S1x256x256_S64x256x256_0_1_2
      (broadcastInDim S1x256x256 ![1, 2] bcast_S256x256_S1x256x256_1_2 (res_main_v22 V))) a) b = lack (mat a b) := by
  funext i j
  unfold lack
  rw [← eyeWord]
  pointwise [mat, res_main_v22, three]

/-- Multiplying by the constant one half. -/
theorem half_mat (a : FVec Ideal S64x256x256 .f32) (b : Fin 64) :
    mat (mulf (broadcastInDim S64x256x256 ![] bcast_S_S64x256x256 (constant S_ .f32 0x3F000000#32)) a) b
      = fun i j => half * mat a b i j := by
  funext i j
  pointwise [mat, half]

/-- Half of three times the identity less a matrix. -/
theorem nhalf_mat (a : FVec Ideal S64x256x256 .f32) (b : Fin 64) :
    mat (mulf (broadcastInDim S64x256x256 ![] bcast_S_S64x256x256 (constant S_ .f32 0x3F000000#32))
      (subf (broadcastInDim S64x256x256 ![0, 1, 2] bcast_S1x256x256_S64x256x256_0_1_2
        (broadcastInDim S1x256x256 ![1, 2] bcast_S256x256_S1x256x256_1_2 (res_main_v22 V))) a)) b = nhalf (mat a b) := by
  rw [half_mat, v22_lack]
  rfl

/-- The batched product is the matrix product of each image. -/
theorem dot_mat (x y : FVec Ideal S64x256x256 .f32) (b : Fin 64) :
    mat (Host.dotGeneral dot_S64x256x256_S64x256x256_S64x256x256_2_1_1_2_0_0 none x y) b = mul (mat x b) (mat y b) := by
  funext i j
  pointwise [mat, mul]

/-- The covariance divided by its trace. -/
theorem v26_mat (b : Fin 64) : mat (res_main_v26 V) b
    = fun i j => Ideal.div (mat (res_main_v14 V) b i j) (tr (mat (res_main_v14 V) b)) := by
  rw [← trace_mat]
  funext i j
  pointwise [mat, traces, res_main_v26]

/-- The first step matrix, off the normalised covariance. -/
theorem v31_mat (b : Fin 64) : mat (res_main_v31 V) b = nhalf (mat (res_main_v26 V) b) := by
  unfold nhalf
  funext i j
  unfold lack
  rw [← eyeWord]
  pointwise [mat, res_main_v31, res_main_v22, three, half]

/-- The first `Y` iterate. -/
theorem v32_mat (b : Fin 64) : mat (res_main_v32 V) b = mul (mat (res_main_v26 V) b) (mat (res_main_v31 V) b) :=
  dot_mat _ _ b

/-- The second `Y` iterate. -/
theorem v39_mat (b : Fin 64) : mat (res_main_v39 V) b = stepY (mat (res_main_v32 V) b) (mat (res_main_v31 V) b) :=
  (dot_mat _ _ b).trans (congrArg (mul _) ((nhalf_mat V _ b).trans (congrArg nhalf (dot_mat _ _ b))))

/-- The second `Z` iterate. -/
theorem v40_mat (b : Fin 64) : mat (res_main_v40 V) b = stepZ (mat (res_main_v32 V) b) (mat (res_main_v31 V) b) :=
  (dot_mat _ _ b).trans (congrArg (mul · _) ((nhalf_mat V _ b).trans (congrArg nhalf (dot_mat _ _ b))))

/-- The third `Y` iterate. -/
theorem v47_mat (b : Fin 64) : mat (res_main_v47 V) b = stepY (mat (res_main_v39 V) b) (mat (res_main_v40 V) b) :=
  (dot_mat _ _ b).trans (congrArg (mul _) ((nhalf_mat V _ b).trans (congrArg nhalf (dot_mat _ _ b))))

/-- The third `Z` iterate. -/
theorem v48_mat (b : Fin 64) : mat (res_main_v48 V) b = stepZ (mat (res_main_v39 V) b) (mat (res_main_v40 V) b) :=
  (dot_mat _ _ b).trans (congrArg (mul · _) ((nhalf_mat V _ b).trans (congrArg nhalf (dot_mat _ _ b))))

/-- The step matrix of the last full step. -/
theorem v54_mat (b : Fin 64) :
    mat (res_main_v54 V) b = nhalf (mul (mat (res_main_v48 V) b) (mat (res_main_v47 V) b)) :=
  (nhalf_mat V _ b).trans (congrArg nhalf (dot_mat _ _ b))

/-- The fourth `Y` iterate. -/
theorem v55_mat (b : Fin 64) : mat (res_main_v55 V) b = mul (mat (res_main_v47 V) b) (mat (res_main_v54 V) b) :=
  dot_mat _ _ b

/-- The last half step, from the third pair of iterates. -/
theorem last_mat (y z : FVec Ideal S64x256x256 .f32) (b : Fin 64) :
    mat (mulf (broadcastInDim S64x256x256 ![] bcast_S_S64x256x256 (constant S_ .f32 0x3F000000#32))
      (Host.dotGeneral (φ₁ := .f32) (φ₂ := .f32) dot_S64x256x256_S64x256x256_S64x256x256_2_1_1_2_0_0 none y
        (subf (broadcastInDim S64x256x256 ![0, 1, 2] bcast_S1x256x256_S64x256x256_0_1_2
            (broadcastInDim S1x256x256 ![1, 2] bcast_S256x256_S1x256x256_1_2 (res_main_v22 V)))
          (Host.dotGeneral (φ₁ := .f32) (φ₂ := .f32) dot_S64x256x256_S64x256x256_S64x256x256_2_1_1_2_0_0 none z y)))) b
      = finish (mat y b) (mat z b) := by
  rw [half_mat, dot_mat, v22_lack, dot_mat]
  rfl

/-- The square roots, before the upper triangle is taken out. -/
def roots : FVec Ideal S64x256x256 .f32 :=
  mulf (mulf (broadcastInDim S64x256x256 ![] bcast_S_S64x256x256 (constant S_ .f32 0x3F000000#32))
    (Host.dotGeneral (φ₁ := .f32) (φ₂ := .f32) dot_S64x256x256_S64x256x256_S64x256x256_2_1_1_2_0_0 none (res_main_v55 V)
      (subf (broadcastInDim S64x256x256 ![0, 1, 2] bcast_S1x256x256_S64x256x256_0_1_2
          (broadcastInDim S1x256x256 ![1, 2] bcast_S256x256_S1x256x256_1_2 (res_main_v22 V)))
        (Host.dotGeneral (φ₁ := .f32) (φ₂ := .f32) dot_S64x256x256_S64x256x256_S64x256x256_2_1_1_2_0_0 none
          (Host.dotGeneral (φ₁ := .f32) (φ₂ := .f32) dot_S64x256x256_S64x256x256_S64x256x256_2_1_1_2_0_0 none (res_main_v54 V) (res_main_v48 V))
          (res_main_v55 V)))))
    (broadcastInDim S64x256x256 ![0, 1, 2] bcast_S64x1x1_S64x256x256_0_1_2
      (broadcastInDim S64x1x1 ![0] bcast_S64_S64x1x1_0 (Host.sqrt (res_main_v23 V))))

/-- Scaling a matrix by the square root of the covariance's trace. -/
theorem scale_mat (a : FVec Ideal S64x256x256 .f32) (b : Fin 64) :
    mat (mulf a (broadcastInDim S64x256x256 ![0, 1, 2] bcast_S64x1x1_S64x256x256_0_1_2
      (broadcastInDim S64x1x1 ![0] bcast_S64_S64x1x1_0 (Host.sqrt (res_main_v23 V))))) b
      = fun i j => mat a b i j * Ideal.sqrt (tr (mat (res_main_v14 V) b)) := by
  rw [← trace_mat]
  funext i j
  pointwise [mat, traces]

/-- The reference's square roots are the root of the covariance of the channels. -/
theorem roots_mat (hb : ∀ i, ∃ r : ℝ, bias V i = r) (b : Fin 64) : mat (roots V) b = root (cov (chan V b)) := by
  rw [← cov_mat V hb, ← rootDiv_eq]
  unfold roots rootDiv
  rw [scale_mat, ← v26_mat]
  funext i j
  congr 1
  refine congrFun (congrFun ?_ i) j
  refine (last_mat V _ _ b).trans ?_
  rw [dot_mat, v55_mat, v54_mat, v48_mat, v47_mat, v40_mat, v39_mat, v32_mat, v31_mat]
  rfl

end Cert.ReferenceIdeal.Image

end
-- ==== Proof.TableRef.lean ====
/- The reference's table of flattened positions, entry by entry. -/
module

public import proofs.«01_k».proof.Proof.Gen.ReferenceIdeal.Run
public import proofs.«01_k».proof.Proof.Table

@[expose] public section

set_option maxRecDepth 16384

namespace Cert.ReferenceIdeal.Table

open Cert.Table

/-- The place of row `i` of the upper triangle, less `i`: entry `(i, j)` of the triangle has place `start i + j`. -/
def start (i : Nat) : Nat := 255 * i - i * (i - 1) / 2

/-- The value `v` is the flattened position `256 i + j` of an entry of the triangle whose place is `p`. -/
def Flat (p : Nat) (v : BitVec 32) : Prop :=
  v.toNat < 65536 ∧ v.toNat / 256 ≤ v.toNat % 256 ∧ start (v.toNat / 256) + v.toNat % 256 = p

/-- Whether a word is the expected one can be decided. -/
instance (p : Nat) (v : BitVec 32) : Decidable (Flat p v) :=
  inferInstanceAs (Decidable (_ ∧ _ ∧ _))

/-- A choice among 128 entries has the property its entries have, each at its place. -/
theorem pickA {β : Type} (P : Nat → β → Prop) (base x : Nat) (hx : x < 128)
    (h0 h1 h2 h3 h4 h5 h6 h7 h8 h9 h10 h11 h12 h13 h14 h15 h16 h17 h18 h19 h20 h21 h22 h23 h24 h25 h26 h27 h28 h29
    h30 h31 h32 h33 h34 h35 h36 h37 h38 h39 h40 h41 h42 h43 h44 h45 h46 h47 h48 h49 h50 h51 h52 h53 h54 h55 h56 h57
    h58 h59 h60 h61 h62 h63 h64 h65 h66 h67 h68 h69 h70 h71 h72 h73 h74 h75 h76 h77 h78 h79 h80 h81 h82 h83 h84 h85
    h86 h87 h88 h89 h90 h91 h92 h93 h94 h95 h96 h97 h98 h99 h100 h101 h102 h103 h104 h105 h106 h107 h108 h109 h110
    h111 h112 h113 h114 h115 h116 h117 h118 h119 h120 h121 h122 h123 h124 h125 h126 h127 : Unit → β)
    (d : Nat → β)
    (H : AllP P base
      [h0 (), h1 (), h2 (), h3 (), h4 (), h5 (), h6 (), h7 (), h8 (), h9 (), h10 (), h11 (), h12 (), h13 (), h14 (),
      h15 (), h16 (), h17 (), h18 (), h19 (), h20 (), h21 (), h22 (), h23 (), h24 (), h25 (), h26 (), h27 (), h28
      (), h29 (), h30 (), h31 (), h32 (), h33 (), h34 (), h35 (), h36 (), h37 (), h38 (), h39 (), h40 (), h41 (),
      h42 (), h43 (), h44 (), h45 (), h46 (), h47 (), h48 (), h49 (), h50 (), h51 (), h52 (), h53 (), h54 (), h55
      (), h56 (), h57 (), h58 (), h59 (), h60 (), h61 (), h62 (), h63 (), h64 (), h65 (), h66 (), h67 (), h68 (),
      h69 (), h70 (), h71 (), h72 (), h73 (), h74 (), h75 (), h76 (), h77 (), h78 (), h79 (), h80 (), h81 (), h82
      (), h83 (), h84 (), h85 (), h86 (), h87 (), h88 (), h89 (), h90 (), h91 (), h92 (), h93 (), h94 (), h95 (),
      h96 (), h97 (), h98 (), h99 (), h100 (), h101 (), h102 (), h103 (), h104 (), h105 (), h106 (), h107 (), h108
      (), h109 (), h110 (), h111 (), h112 (), h113 (), h114 (), h115 (), h116 (), h117 (), h118 (), h119 (), h120
      (), h121 (), h122 (), h123 (), h124 (), h125 (), h126 (), h127 ()]) :
    P (base + x) (lit0t0_0.match_1 (fun _ => β) x
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56
      h57 h58 h59 h60 h61 h62 h63 h64 h65 h66 h67 h68 h69 h70 h71 h72 h73 h74 h75 h76 h77 h78 h79 h80 h81 h82 h83
      h84 h85 h86 h87 h88 h89 h90 h91 h92 h93 h94 h95 h96 h97 h98 h99 h100 h101 h102 h103 h104 h105 h106 h107 h108
      h109 h110 h111 h112 h113 h114 h115 h116 h117 h118 h119 h120 h121 h122 h123 h124 h125 h126 h127 d) := by
  have h := allP_get P base _ H x hx
  interval_cases x <;> exact h

/-- The same for the other spelling of the choice. -/
theorem pickB {β : Type} (P : Nat → β → Prop) (base x : Nat) (hx : x < 128)
    (h0 h1 h2 h3 h4 h5 h6 h7 h8 h9 h10 h11 h12 h13 h14 h15 h16 h17 h18 h19 h20 h21 h22 h23 h24 h25 h26 h27 h28 h29
    h30 h31 h32 h33 h34 h35 h36 h37 h38 h39 h40 h41 h42 h43 h44 h45 h46 h47 h48 h49 h50 h51 h52 h53 h54 h55 h56 h57
    h58 h59 h60 h61 h62 h63 h64 h65 h66 h67 h68 h69 h70 h71 h72 h73 h74 h75 h76 h77 h78 h79 h80 h81 h82 h83 h84 h85
    h86 h87 h88 h89 h90 h91 h92 h93 h94 h95 h96 h97 h98 h99 h100 h101 h102 h103 h104 h105 h106 h107 h108 h109 h110
    h111 h112 h113 h114 h115 h116 h117 h118 h119 h120 h121 h122 h123 h124 h125 h126 h127 : Unit → β)
    (d : Nat → β)
    (H : AllP P base
      [h0 (), h1 (), h2 (), h3 (), h4 (), h5 (), h6 (), h7 (), h8 (), h9 (), h10 (), h11 (), h12 (), h13 (), h14 (),
      h15 (), h16 (), h17 (), h18 (), h19 (), h20 (), h21 (), h22 (), h23 (), h24 (), h25 (), h26 (), h27 (), h28
      (), h29 (), h30 (), h31 (), h32 (), h33 (), h34 (), h35 (), h36 (), h37 (), h38 (), h39 (), h40 (), h41 (),
      h42 (), h43 (), h44 (), h45 (), h46 (), h47 (), h48 (), h49 (), h50 (), h51 (), h52 (), h53 (), h54 (), h55
      (), h56 (), h57 (), h58 (), h59 (), h60 (), h61 (), h62 (), h63 (), h64 (), h65 (), h66 (), h67 (), h68 (),
      h69 (), h70 (), h71 (), h72 (), h73 (), h74 (), h75 (), h76 (), h77 (), h78 (), h79 (), h80 (), h81 (), h82
      (), h83 (), h84 (), h85 (), h86 (), h87 (), h88 (), h89 (), h90 (), h91 (), h92 (), h93 (), h94 (), h95 (),
      h96 (), h97 (), h98 (), h99 (), h100 (), h101 (), h102 (), h103 (), h104 (), h105 (), h106 (), h107 (), h108
      (), h109 (), h110 (), h111 (), h112 (), h113 (), h114 (), h115 (), h116 (), h117 (), h118 (), h119 (), h120
      (), h121 (), h122 (), h123 (), h124 (), h125 (), h126 (), h127 ()]) :
    P (base + x) (lit0t0_194.match_1 (fun _ => β) x
      h0 h1 h2 h3 h4 h5 h6 h7 h8 h9 h10 h11 h12 h13 h14 h15 h16 h17 h18 h19 h20 h21 h22 h23 h24 h25 h26 h27 h28 h29
      h30 h31 h32 h33 h34 h35 h36 h37 h38 h39 h40 h41 h42 h43 h44 h45 h46 h47 h48 h49 h50 h51 h52 h53 h54 h55 h56
      h57 h58 h59 h60 h61 h62 h63 h64 h65 h66 h67 h68 h69 h70 h71 h72 h73 h74 h75 h76 h77 h78 h79 h80 h81 h82 h83
      h84 h85 h86 h87 h88 h89 h90 h91 h92 h93 h94 h95 h96 h97 h98 h99 h100 h101 h102 h103 h104 h105 h106 h107 h108
      h109 h110 h111 h112 h113 h114 h115 h116 h117 h118 h119 h120 h121 h122 h123 h124 h125 h126 h127 d) := by
  have h := allP_get P base _ H x hx
  interval_cases x <;> exact h

/-- The entries of places 0 to 16383. -/
theorem flat_part0 (i : Nat) : Flat (128 * (i / 128 % 128) + i % 128) (lit0t1_0 i) := by
  have hx : i % 128 < 128 := Nat.mod_lt _ (by decide)
  have key := pickB (fun q (v : BitVec 32) => Flat (128 * q + i % 128) v) 0 (i / 128 % 128) (Nat.mod_lt _ (by decide))
  rw [Nat.zero_add] at key
  apply key
  repeat' apply allP_cons
  on_goal 129 => trivial
  all_goals first
    | (apply pickA Flat _ _ hx; decide +kernel)
    | (apply pickB Flat _ _ hx; decide +kernel)

/-- The entries of places 16384 to 32767. -/
theorem flat_part1 (i : Nat) : Flat (128 * (128 + i / 128 % 128) + i % 128) (lit0t1_1 i) := by
  have hx : i % 128 < 128 := Nat.mod_lt _ (by decide)
  apply pickB (fun q (v : BitVec 32) => Flat (128 * q + i % 128) v) 128 (i / 128 % 128) (Nat.mod_lt _ (by decide))
  repeat' apply allP_cons
  on_goal 129 => trivial
  all_goals first
    | (apply pickA Flat _ _ hx; decide +kernel)
    | (apply pickB Flat _ _ hx; decide +kernel)

/-- The entries of places 32768 to 32895. -/
theorem flat_part2 (i : Nat) : Flat (128 * 256 + i % 128) (lit0t0_256 i) := by
  have hx : i % 128 < 128 := Nat.mod_lt _ (by decide)
  first
    | (apply pickA Flat _ _ hx; decide +kernel)
    | (apply pickB Flat _ _ hx; decide +kernel)

/-- Every entry of the table is the flattened position whose place in the triangle is the entry's own place. -/
theorem flat_lit0 (p : Fin 32896) : Flat p.val (lit0 p) := by
  obtain ⟨p, hp⟩ := p
  show Flat p (lit0t p)
  have h : p / 16384 = 0 ∨ p / 16384 = 1 ∨ (p / 16384 = 2 ∧ p / 128 % 128 = 0) := by omega
  rcases h with h | h | ⟨h, h'⟩
  · have e : lit0t p = lit0t1_0 p := by unfold lit0t; rw [h]; rfl
    have e' : 128 * (p / 128 % 128) + p % 128 = p := by omega
    rw [e]; conv => arg 1; rw [← e']
    exact flat_part0 p
  · have e : lit0t p = lit0t1_1 p := by unfold lit0t; rw [h]; rfl
    have e' : 128 * (128 + p / 128 % 128) + p % 128 = p := by omega
    rw [e]; conv => arg 1; rw [← e']
    exact flat_part1 p
  · have e : lit0t p = lit0t0_256 p := by unfold lit0t; rw [h]; unfold lit0t1_2; rw [h']; rfl
    have e' : 128 * 256 + p % 128 = p := by omega
    rw [e]; conv => arg 1; rw [← e']
    exact flat_part2 p

end Cert.ReferenceIdeal.Table
-- ==== Proof.RefPick.lean ====
/- The reference's upper triangle, picked out of the matrix roots. -/
module

public import proofs.«01_k».proof.Proof.RefVal
public import proofs.«01_k».proof.Proof.TableRef

@[expose] public section

set_option maxRecDepth 16384

noncomputable section

namespace Cert.ReferenceIdeal.Image

open Cert.ReferenceIdeal Cert.ReferenceIdeal.Gen Cert.ReferenceIdeal.Value Cert.Cov
open Idealize.ShloMosaic Idealize.ShloMosaic.TcCoe

variable (V : Valuation τ sig (Elt Ideal))

/-- Column `p` of the gather is the column of the flattened matrices that the index column names there. -/
theorem gather_column (x : FVec Ideal S64x65536 .f32) (idx : IVec S32896x1 32) (b : Fin 64) (p : Fin 32896)
    (q : Fin 65536) (h : idx (ix2 p (0 : Fin 1)) = BitVec.ofNat 32 q.val) :
    Host.gather gather_S64x65536_S32896x1_S64x32896_0_1_n_n_1_1_641 x idx (ix2 b p) = x (ix2 b q) := by
  unfold Host.gather
  refine congrArg x (funext fun a => Fin.ext ?_)
  show GatherDims.start _ _ idx a + GatherDims.batchCoord _ _ a + GatherDims.offCoord _ _ a = _
  rw [GatherDims.batchCoord_eq_zero _ _ _ (List.not_mem_nil)]
  match a with
  | ⟨0, _⟩ =>
    unfold GatherDims.start
    rw [dif_neg]
    swap
    · show (0 : Fin 2) ∉ [(1 : Fin 2)]
      decide
    simp only [Nat.zero_add, Nat.add_zero]
    rfl
  | ⟨1, _⟩ =>
    rw [GatherDims.offCoord_eq_zero _ _ _ (fun h => ((GatherDims.mem_sKept _ _).mp h).1 (List.mem_singleton.mpr rfl))]
    unfold GatherDims.start
    rw [dif_pos]
    swap
    · show (1 : Fin 2) ∈ [(1 : Fin 2)]
      decide
    have hs : GatherDims.siIdx gather_S64x65536_S32896x1_S64x32896_0_1_n_n_1_1_641 (ix2 b p)
        ⟨List.idxOf (1 : Fin 2) [1], by decide⟩ = ix2 p (0 : Fin 1) := by
      funext c
      match c with
      | ⟨0, _⟩ => rfl
      | ⟨1, _⟩ => rfl
    have hq := q.isLt
    have e : (idx (ix2 p (0 : Fin 1))).toInt = (q.val : Int) := by
      have hn : (BitVec.ofNat 32 q.val).toNat = q.val := Nat.mod_eq_of_lt (by omega)
      rw [h, BitVec.toInt_eq_toNat_of_lt (by rw [hn]; omega), hn]
    simp only [Nat.add_zero]
    refine (congrArg (fun t => min (idx t).toInt.toNat 65535) hs).trans ?_
    show min (idx (ix2 p (0 : Fin 1))).toInt.toNat 65535 = q.val
    rw [e]
    show min (q.val : Int).toNat 65535 = q.val
    omega

/-- The row of the matrix that place `p` of the triangle comes from. -/
def rowOf (p : Fin 32896) : Fin 256 := ⟨(lit0 p).toNat / 256, by have := (Table.flat_lit0 p).1; omega⟩

/-- The column of the matrix that place `p` of the triangle comes from. -/
def colOf (p : Fin 32896) : Fin 256 := ⟨(lit0 p).toNat % 256, Nat.mod_lt _ (by decide)⟩

/-- A table entry below 65536 is not negative as a signed word, so the reference's wrap-around keeps it. -/
theorem keep_word (v : BitVec 32) (h : v.toNat < 65536) :
    Scalar.select (IntOp.cmpi .slt v 0#32) (IntOp.addi v 65536#32) v = v := by
  have hs : BitVec.slt v 0#32 = false := by
    rw [BitVec.slt_eq_decide, BitVec.toInt_eq_toNat_of_lt (by omega)]
    simp
  simp [IntOp.cmpi, Scalar.select, hs]

/-- Place `p` of image `b`'s picked vector is the matrix root's entry the table names. -/
theorem picked (b : Fin 64) (p : Fin 32896) :
    (res_main_v75 V : FVec Ideal S64x32896 .f32) (ix2 b p) = mat (roots V) b (rowOf p) (colOf p) := by
  have hp := Table.flat_lit0 p
  refine (gather_column _ _ b p ⟨(lit0 p).toNat, hp.1⟩ ?_).trans ?_
  · have hc : (res_main_c V : IVec S32896 32) (ix1 p) = lit0 p := by
      show lit0 (S32896.rowMajor (ix1 p)) = lit0 p
      exact congrArg lit0 (Fin.ext (rowMajor_val1 _))
    pointwise
    erw [hc]
    exact (keep_word _ hp.1).trans (BitVec.eq_of_toNat_eq (by simp))
  · pointwise [mat, roots, rowOf, colOf]

end Cert.ReferenceIdeal.Image

end
-- ==== Proof.Triangle.lean ====
/- A sum over the places of the upper triangle is a sum over the whole square with the lower half masked out. -/
module

public import proofs.«01_k».proof.Proof.RefPick

@[expose] public section

set_option maxRecDepth 16384

noncomputable section

namespace Cert.ReferenceIdeal.Image

open Cert.ReferenceIdeal Cert.ReferenceIdeal.Gen Cert.Cov
open Idealize.ShloMosaic Idealize.ShloMosaic.TcCoe

/-- The place of a triangle entry in the flattened triangle, off its row and column. -/
theorem place (p : Fin 32896) : Table.start (rowOf p).val + (colOf p).val = p.val := (Table.flat_lit0 p).2.2

/-- A triangle entry's row does not exceed its column. -/
theorem row_le_col (p : Fin 32896) : (rowOf p).val ≤ (colOf p).val := (Table.flat_lit0 p).2.1

/-- Every row of the triangle but the last ends just before the next one starts. -/
theorem start_succ (i : Nat) (h : i < 256) : Table.start (i + 1) + (i + 1) = Table.start i + 256 := by
  unfold Table.start
  have e : (i + 1) * (i + 1 - 1) = i * (i - 1) + 2 * i := by
    cases i with
    | zero => rfl
    | succ n => simp only [Nat.add_sub_cancel]; ring
  have hb : i * (i - 1) ≤ 255 * (2 * i) := by
    cases i with
    | zero => exact Nat.zero_le _
    | succ n => simp only [Nat.add_sub_cancel]; nlinarith
  rw [e]
  omega

/-- A later row's places all come after an earlier row's. -/
theorem start_lt (i k : Nat) (hk : i + 1 + k ≤ 256) : Table.start i + 256 ≤ Table.start (i + 1 + k) + (i + 1 + k) := by
  induction k with
  | zero => exact (start_succ i (by omega)).ge
  | succ k ih =>
    have h1 := ih (by omega)
    have h2 := start_succ (i + 1 + k) (by omega)
    have h3 : i + 1 + (k + 1) = i + 1 + k + 1 := rfl
    rw [h3]
    omega

/-- Entries of the triangle at different rows or columns have different places. -/
theorem place_inj (i j i' j' : Fin 256) (h : i.val ≤ j.val) (h' : i'.val ≤ j'.val)
    (e : Table.start i.val + j.val = Table.start i'.val + j'.val) : i = i' ∧ j = j' := by
  have hj := j.isLt
  have hj' := j'.isLt
  rcases Nat.lt_trichotomy i.val i'.val with hlt | heq | hgt
  · have := start_lt i.val (i'.val - (i.val + 1)) (by omega)
    rw [show i.val + 1 + (i'.val - (i.val + 1)) = i'.val by omega] at this
    omega
  · rw [heq] at e
    exact ⟨Fin.ext heq, Fin.ext (by omega)⟩
  · have := start_lt i'.val (i.val - (i'.val + 1)) (by omega)
    rw [show i'.val + 1 + (i.val - (i'.val + 1)) = i.val by omega] at this
    omega

/-- Every entry of the triangle has its place among the 32896. -/
theorem place_lt (i j : Fin 256) (h : i.val ≤ j.val) : Table.start i.val + j.val < 32896 := by
  have hi := i.isLt
  have hj := j.isLt
  rcases Nat.lt_or_ge i.val 255 with hlt | hge
  · have := start_lt i.val (255 - (i.val + 1)) (by omega)
    rw [show i.val + 1 + (255 - (i.val + 1)) = 255 by omega] at this
    have e : Table.start 255 = 32640 := by decide
    omega
  · have e : i.val = 255 := by omega
    rw [e]
    have e' : Table.start 255 = 32640 := by decide
    omega

/-- The entry at a place of the triangle is the one whose place it is. -/
theorem entry_of_place (p : Fin 32896) (i j : Fin 256) (h : i.val ≤ j.val) (e : Table.start i.val + j.val = p.val) :
    rowOf p = i ∧ colOf p = j := place_inj _ _ _ _ (row_le_col p) h ((place p).trans e.symm)

/-- The dot product of the picked triangle with a weight row is the square's dot product with the weights laid out on the
    triangle and multiplied by its mask. -/
theorem triangle_sum (s : Mat) (w : Fin 32896 → EReal) (W : Mat)
    (hW : ∀ (i j : Fin 256), (h : i.val ≤ j.val) → W i j = w ⟨Table.start i.val + j.val, place_lt i j h⟩)
    (hz : ∀ i j : Fin 256, j.val < i.val → W i j = 0) :
    ∑ p : Fin 32896, s (rowOf p) (colOf p) * w p = head s W := by
  unfold head
  rw [← Fintype.sum_prod_type' (f := fun i j : Fin 256 => s i j * W i j)]
  have hs : ∑ x : Fin 256 × Fin 256, s x.1 x.2 * W x.1 x.2
      = ∑ x ∈ Finset.univ.filter (fun x : Fin 256 × Fin 256 => x.1.val ≤ x.2.val), s x.1 x.2 * W x.1 x.2 := by
    symm
    refine Finset.sum_filter_of_ne fun x _ hx => ?_
    by_contra hlt
    exact hx (by rw [hz x.1 x.2 (by omega), mul_zero])
  rw [hs]
  refine Finset.sum_bij' (fun p _ => (rowOf p, colOf p))
    (fun x _ => if h : x.1.val ≤ x.2.val then ⟨Table.start x.1.val + x.2.val, place_lt x.1 x.2 h⟩ else 0) ?_ ?_ ?_ ?_ ?_
  · intro p _
    exact Finset.mem_filter.mpr ⟨Finset.mem_univ _, row_le_col p⟩
  · intro x _
    exact Finset.mem_univ _
  · intro p _
    rw [dif_pos (row_le_col p)]
    exact Fin.ext (place p)
  · intro x hx
    have h := (Finset.mem_filter.mp hx).2
    rw [dif_pos h]
    have := entry_of_place ⟨Table.start x.1.val + x.2.val, place_lt x.1 x.2 h⟩ x.1 x.2 h rfl
    exact Prod.ext this.1 this.2
  · intro p _
    rw [hW _ _ (row_le_col p)]
    exact congrArg (fun t => s (rowOf p) (colOf p) * w t) (Fin.ext (place p).symm)

end Cert.ReferenceIdeal.Image

end
-- ==== Proof.RefOut.lean ====
/- The reference's two results, entry by entry. -/
module

public import proofs.«01_k».proof.Proof.Triangle

@[expose] public section

set_option maxRecDepth 16384

noncomputable section

namespace Cert.ReferenceIdeal.Image

open Cert.ReferenceIdeal Cert.ReferenceIdeal.Gen Cert.ReferenceIdeal.Value Cert.Cov
open Idealize.ShloMosaic Idealize.ShloMosaic.TcCoe

variable (V : Valuation τ sig (Elt Ideal))

/-- The four-row weights and bias. -/
def wType : FVec Ideal S4x32896 .f32 := V (Proc.tc.devRef main_arg3)
/-- The four-row head's bias. -/
def bType : FVec Ideal S4 .f32 := V (Proc.tc.devRef main_arg4)
/-- The one-row weights. -/
def wFlag : FVec Ideal S1x32896 .f32 := V (Proc.tc.devRef main_arg5)
/-- The one-row head's bias. -/
def bFlag : FVec Ideal S1 .f32 := V (Proc.tc.devRef main_arg6)

/-- The picked triangles of all images. -/
def picks : FVec Ideal S64x32896 .f32 := res_main_v75 V

/-- The first result as the reference's run states it. -/
def outType : FVec Ideal S64x4 .f32 :=
  addf (Host.dotGeneral (φ₁ := .f32) (φ₂ := .f32) dot_S64x32896_S32896x4_S64x4_1_0_0_1_n_n none (picks V)
    (transpose S32896x4 [1, 0] (wType V) transposes_S4x32896_S32896x4_1_0))
    (broadcastInDim S64x4 ![0, 1] bcast_S1x4_S64x4_0_1 (broadcastInDim S1x4 ![1] bcast_S4_S1x4_1 (bType V)))

/-- The second result as the reference's run states it. -/
def outFlag : FVec Ideal S64x1 .f32 :=
  addf (Host.dotGeneral (φ₁ := .f32) (φ₂ := .f32) dot_S64x32896_S32896x1_S64x1_1_0_0_1_n_n none (picks V)
    (transpose S32896x1 [1, 0] (wFlag V) transposes_S1x32896_S32896x1_1_0))
    (broadcastInDim S64x1 ![0, 1] bcast_S1x1_S64x1_0_1 (broadcastInDim S1x1 ![1] bcast_S1_S1x1_1 (bFlag V)))

/-- With a finite bias, entry `p` of image `b`'s triangle is that of the root of its channels' covariance. -/
theorem picks_apply (hb : ∀ i, ∃ r : ℝ, bias V i = r) (b : Fin 64) (p : Fin 32896) :
    picks V (ix2 b p) = Cov.root (cov (chan V b)) (rowOf p) (colOf p) :=
  (picked V b p).trans (congrFun (congrFun (roots_mat V hb b) _) _)

/-- Entry `(b, k)` of the first result. -/
theorem outType_apply (hb : ∀ i, ∃ r : ℝ, bias V i = r) (b : Fin 64) (k : Fin 4) :
    outType V (ix2 b k)
      = (∑ p : Fin 32896, Cov.root (cov (chan V b)) (rowOf p) (colOf p) * wType V (ix2 k p)) + bType V (ix1 k) := by
  have h : outType V (ix2 b k) = (∑ p : Fin 32896, picks V (ix2 b p) * wType V (ix2 k p)) + bType V (ix1 k) := by
    pointwise [outType]
  rw [h]
  simp only [picks_apply V hb]

/-- Entry `b` of the second result. -/
theorem outFlag_apply (hb : ∀ i, ∃ r : ℝ, bias V i = r) (b : Fin 64) :
    outFlag V (ix2 b 0)
      = (∑ p : Fin 32896, Cov.root (cov (chan V b)) (rowOf p) (colOf p) * wFlag V (ix2 0 p)) + bFlag V (ix1 0) := by
  have h : outFlag V (ix2 b 0) = (∑ p : Fin 32896, picks V (ix2 b p) * wFlag V (ix2 0 p)) + bFlag V (ix1 0) := by
    pointwise [outFlag]
  rw [h]
  simp only [picks_apply V hb]

end Cert.ReferenceIdeal.Image

end
-- ==== Proof.KernelOut.lean ====
/- The kernel's two results, as sums over the places of the upper triangle. -/
module

public import proofs.«01_k».proof.Proof.Tail
public import proofs.«01_k».proof.Proof.RefOut

@[expose] public section

set_option maxRecDepth 16384

noncomputable section

namespace Cert.KernelIdeal.Out

open Idealize.SL Idealize.SL.Sem
open Cert.KernelIdeal Cert.KernelIdeal.Gen Cert.KernelIdeal.Image Cert.KernelIdeal.Weights Cert.Cov
open Idealize.ShloMosaic Idealize.ShloMosaic.TcCoe
open Cert.ReferenceIdeal.Image (chanOf rowOf colOf triangle_sum)

variable (m : (ℓ : Loc nD τ sig) → Buf (Elt Ideal) ℓ) (c : Dev nD)

/-- The launched contents of one device. -/
def launched : Valuation τ sig (Elt Ideal) := fun b => m (c, b)

/-- What the region leaves. -/
def left : Valuation τ sig (Elt Ideal) :=
  Pipeline.withArrays spec0 c (V0 m c) fun w => (dats m 0 c).arrAt w (cfgs 0).N

/-- The reduction weights. -/
def wReduce : FVec Ideal S256x2048 .f32 := launched m c main_arg1

/-- What the launch's operations leave, the list written out. -/
theorem entry_eq : V0 m c = StableHlo.after hostOps0 (launched m c) := by
  show StableHlo.after (List.flatten [hostOps0]) _ = _
  rw [List.flatten_cons, List.flatten_nil, List.append_nil]
  rfl

/-- The region finds the features flattened. -/
theorem feats_apply (b : Fin 64) (k : Fin 2048) (p : Fin 256) :
    feats m c (ix3 b k p) = feat (launched m c) (ix4 b k ⟨p.val / 16, by omega⟩ ⟨p.val % 16, by omega⟩) :=
  (congrArg (fun v => flat v (ix3 b k p)) (entry_eq m c)).trans (flat_after _ b k p)

/-- The region finds the reduction weights as launched. -/
theorem wRed_eq : wRed m c = wReduce m c := V_main_arg1 m c

/-- The region finds the masked head weights. -/
theorem wHead_apply (k : Fin 5) (i j : Fin 256) : wHead m c (ix3 k i j)
      = at2 (padded (mid (launched m c))) k (start i.val + j.val) * if i.val ≤ j.val then 1 else 0 :=
  (congrArg (fun v => masked v (ix3 k i j)) (entry_eq m c)).trans (masked_after _ k i j)

/-- An image's reduced channels. -/
theorem chan_eq (b : Fin 64) :
    chan (wRed m c) (image (n := 64) (feats m c) b) = chanOf (wReduce m c) (feat (launched m c)) b := by
  rw [wRed_eq]
  funext i p
  unfold chan chanOf image
  refine Finset.sum_congr rfl fun k _ => ?_
  exact congrArg (fun t => wReduce m c (ix2 i k) * t) (feats_apply m c b k p)

/-- A lane of the region's array: one head's sum over the triangle. -/
theorem lane_eq (b : Fin 64) (k : Fin 5) (w : Fin 32896 → EReal)
    (hw : ∀ (n : Nat) (h : n < 32896), at2 (padded (mid (launched m c))) k n = w ⟨n, h⟩) :
    sums (left m c) (ix3 b 0 ⟨k.val, by omega⟩)
      = ∑ p : Fin 32896, Cov.root (cov (chanOf (wReduce m c) (feat (launched m c)) b)) (rowOf p) (colOf p) * w p := by
  have hs : sums (left m c) = rows (n := 64) (feats m c) (wRed m c) (wHead m c) :=
    (Pipeline.withArrays_arr spec0 launch0.win.arr_inj c (V0 m c) (fun w => (dats m 0 c).arrAt w (cfgs 0).N) 3).trans (region_eq m c)
  rw [hs]
  refine (imageRow_apply (wRed m c) (wHead m c) (image (n := 64) (feats m c) b) k).trans ?_
  rw [chan_eq]
  symm
  refine triangle_sum _ w _ ?_ ?_
  · intro i j h
    rw [wHead_apply, if_pos h, mul_one]
    exact hw _ _
  · intro i j h
    rw [wHead_apply, if_neg (by omega), mul_zero]

/-- The four-row head's bias is as launched. -/
theorem bType_left : bType (left m c) = bType (launched m c) :=
  (Pipeline.withArrays_of_ne spec0 c (V0 m c) (fun w => (dats m 0 c).arrAt w (cfgs 0).N) main_arg4 (by exact (by decide : ∀ w, Pipeline.arrRef spec0 w ≠ main_arg4))).trans
    (V_main_arg4 m c)

/-- The one-row head's bias is as launched. -/
theorem bFlag_left : bFlag (left m c) = bFlag (launched m c) :=
  (Pipeline.withArrays_of_ne spec0 c (V0 m c) (fun w => (dats m 0 c).arrAt w (cfgs 0).N) main_arg6 (by exact (by decide : ∀ w, Pipeline.arrRef spec0 w ≠ main_arg6))).trans
    (V_main_arg6 m c)

/-- Entry `(b, k)` of the first result. -/
theorem outType_apply (b : Fin 64) (k : Fin 4) : outType (StableHlo.after hostOps1 (left m c)) (ix2 b k)
      = (∑ p : Fin 32896, Cov.root (cov (chanOf (wReduce m c) (feat (launched m c)) b)) (rowOf p) (colOf p)
          * wType (launched m c) (ix2 k p)) + bType (launched m c) (ix1 k) := by
  rw [outType_after, bType_left]
  refine congrArg (· + bType (launched m c) (ix1 k)) ?_
  refine lane_eq m c b ⟨k.val, by omega⟩ (fun p => wType (launched m c) (ix2 k p)) fun n h => ?_
  rw [at2_padded _ _ _ h, dif_pos k.isLt]

/-- Entry `b` of the second result. -/
theorem outFlag_apply (b : Fin 64) : outFlag (StableHlo.after hostOps1 (left m c)) (ix2 b 0)
      = (∑ p : Fin 32896, Cov.root (cov (chanOf (wReduce m c) (feat (launched m c)) b)) (rowOf p) (colOf p)
          * wFlag (launched m c) (ix2 0 p)) + bFlag (launched m c) (ix1 0) := by
  rw [outFlag_after, bFlag_left]
  refine congrArg (· + bFlag (launched m c) (ix1 0)) ?_
  refine lane_eq m c b 4 (fun p => wFlag (launched m c) (ix2 0 p)) fun n h => ?_
  rw [at2_padded _ _ _ h, dif_neg (by decide)]

end Cert.KernelIdeal.Out

end
-- ==== Proof.Value.lean ====
/- The kernel's run, its results read, and the reference's results equal to them. -/
module

public import proofs.«01_k».proof.Proof.KernelOut

@[expose] public section

set_option maxRecDepth 16384

noncomputable section

namespace Cert.Value

open Idealize.SL Idealize.SL.Sem
open Idealize.ShloMosaic Idealize.ShloMosaic.TcCoe

section Kernel

open Cert.KernelIdeal Cert.KernelIdeal.Gen Cert.KernelIdeal.Out

variable (m : (ℓ : Loc nD τ sig) → Buf (Elt Ideal) ℓ) (c : Dev nD)

/-- The kernel's first result. -/
def typeRes : FVec Ideal S64x4 .f32 := Weights.outType (StableHlo.after hostOps1 (left m c))
/-- The kernel's second result. -/
def flagRes : FVec Ideal S64x1 .f32 := Weights.outFlag (StableHlo.after hostOps1 (left m c))

/-- The operations after the region, the list written out. -/
theorem tail_eq (b : Ref sig .tc) : Pipeline.afterTail₀ cfgs (dats m) 0 (V0 m) [hostOps1] c b
      = StableHlo.after hostOps1 (left m c) (Proc.devRef .tc b) := by
  unfold Pipeline.afterTail₀
  rw [List.flatten_cons, List.flatten_nil, List.append_nil]
  rfl

/-- Every run of the kernel ends with the two results and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = typeRes m c
      ∧ r.2.mem ((c.tc : Thread nD τ).loc main_v0_1) = flagRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0_0 (Pipeline.mem_restRefs_of main_v0_0 (by decide) (by decide))).trans (tail_eq m c main_v0_0),
      ((h c).2 main_v0_1 (Pipeline.mem_restRefs_of main_v0_1 (by decide) (by decide))).trans (tail_eq m c main_v0_1),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Kernel

section Agree

open Cert.KernelIdeal.Out (launched wReduce)
open Cert.ReferenceIdeal.Image (chanOf chan bias rowOf colOf)

variable (m : (ℓ : Loc Cert.KernelIdeal.nD Cert.KernelIdeal.τ Cert.KernelIdeal.sig) → Buf (Elt Ideal) ℓ)
  (c : Dev Cert.KernelIdeal.nD) (V : Valuation Cert.ReferenceIdeal.τ Cert.ReferenceIdeal.sig (Elt Ideal))

/-- On the same arguments, with a finite bias, the reference's first result is the kernel's. -/
theorem type_eq (hb : ∀ i, ∃ r : ℝ, bias V i = r)
    (h0 : V (Proc.tc.devRef Cert.ReferenceIdeal.main_arg0) = Cert.KernelIdeal.Weights.feat (launched m c))
    (h1 : V (Proc.tc.devRef Cert.ReferenceIdeal.main_arg1) = wReduce m c)
    (h3 : Cert.ReferenceIdeal.Image.wType V = Cert.KernelIdeal.Weights.wType (launched m c))
    (h4 : Cert.ReferenceIdeal.Image.bType V = Cert.KernelIdeal.Weights.bType (launched m c)) :
    Cert.ReferenceIdeal.Image.outType V = typeRes m c := by
  have hc : ∀ b, chan V b = chanOf (wReduce m c) (Cert.KernelIdeal.Weights.feat (launched m c)) b := fun b => by
    unfold chan
    rw [h0, h1]
  funext y
  obtain ⟨b, k, rfl⟩ : ∃ (b : Fin 64) (k : Fin 4), y = ix2 b k := ⟨y 0, y 1, eq_ix2 y⟩
  rw [Cert.ReferenceIdeal.Image.outType_apply V hb b k, hc, h3, h4]
  exact (Cert.KernelIdeal.Out.outType_apply m c b k).symm

/-- On the same arguments, with a finite bias, the reference's second result is the kernel's. -/
theorem flag_eq (hb : ∀ i, ∃ r : ℝ, bias V i = r)
    (h0 : V (Proc.tc.devRef Cert.ReferenceIdeal.main_arg0) = Cert.KernelIdeal.Weights.feat (launched m c))
    (h1 : V (Proc.tc.devRef Cert.ReferenceIdeal.main_arg1) = wReduce m c)
    (h5 : Cert.ReferenceIdeal.Image.wFlag V = Cert.KernelIdeal.Weights.wFlag (launched m c))
    (h6 : Cert.ReferenceIdeal.Image.bFlag V = Cert.KernelIdeal.Weights.bFlag (launched m c)) :
    Cert.ReferenceIdeal.Image.outFlag V = flagRes m c := by
  have hc : ∀ b, chan V b = chanOf (wReduce m c) (Cert.KernelIdeal.Weights.feat (launched m c)) b := fun b => by
    unfold chan
    rw [h0, h1]
  funext y
  obtain ⟨b, k, rfl⟩ : ∃ (b : Fin 64) (k : Fin 1), y = ix2 b k := ⟨y 0, y 1, eq_ix2 y⟩
  obtain rfl : k = 0 := Subsingleton.elim _ _
  rw [Cert.ReferenceIdeal.Image.outFlag_apply V hb b, hc, h5, h6]
  exact (Cert.KernelIdeal.Out.outFlag_apply m c b).symm

end Agree

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference's run keeps its arguments, and the reference declares no semaphore. -/
theorem frame_r : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- At the ideal instance, from memories agreeing on the arguments and with finite biases, the kernel and the reference
    both run and end with the same two results. -/
theorem algebraic : Cert.algebraic_KernelIdeal_ReferenceIdeal_pre_finite_bias (hKernelIdeal := Cert.KernelIdeal.Gen.facts)
    (hReferenceIdeal := Cert.ReferenceIdeal.Gen.facts) (hPre_finite_bias := Cert.Finite.facts) := by
  intro m g m' g' hpre hagree
  refine ⟨Cert.Value.typeRes m, Cert.Value.flagRes m, Cert.Value.kernel_run m g, ?_⟩
  refine (θ_run Cert.ReferenceIdeal.defs _ _).mono (fun r h c => ?_) (Cert.ReferenceIdeal.Value.run (F := Ideal) m' g')
  obtain ⟨h0, h1, h2, h3, h4, h5, h6⟩ := hagree c
  have hb : ∀ i, ∃ x : ℝ, Cert.ReferenceIdeal.Image.bias (Idealize.ShloMosaic.StableHlo.launchContents m' c) i = x := fun i => by
    obtain ⟨x, hx⟩ := @Cert.Finite.bias_real Cert.Finite.facts _ _ _ _ _ _ _ (hpre c) i
    exact ⟨x, (congrFun h2 (Idealize.ShloMosaic.ix1 i)).trans hx⟩
  exact ⟨(h c).1.trans (Cert.Value.type_eq m c _ hb h0 h1 h3 h4),
    (h c).2.1.trans (Cert.Value.flag_eq m c _ hb h0 h1 h5 h6), (h c).2.2⟩

/-- Everything claimed: the two frames and the two under the precondition, the idealization, and the value. -/
theorem claim : Cert.Claim := ⟨Cert.Kernel.Gen.facts, Cert.KernelIdeal.Gen.facts, Cert.ReferenceIdeal.Gen.facts, Cert.Finite.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial, trivial, algebraic⟩

end Cert.Proof

end
